-- ==== Defs.lean ====
def Pre_Kernel (m : (ℓ : Loc Cert.Kernel.nD Cert.Kernel.τ Cert.Kernel.sig) → Buf (Elt Bits) ℓ) : Prop :=
  True

def Pre_Reference (m : (ℓ : Loc Cert.Reference.nD Cert.Reference.τ Cert.Reference.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_Reference [hReference : Cert.Reference.Facts] : Prop :=
  ∀ (m : (ℓ : Loc Cert.Reference.nD Cert.Reference.τ Cert.Reference.sig) → Buf (Elt Bits) ℓ) (g : Dev Cert.Reference.nD → PrngReg), Pre_Reference m →
    θ_run (Cert.Reference.defs (F := Bits)) (onTc (τ := Cert.Reference.τ) (Cert.Reference.main (F := Bits))) ⟨m, fun _ => 0, g⟩ (fun r => (∀ c : Dev Cert.Reference.nD,
      r.2.mem ((c.tc : Thread Cert.Reference.nD Cert.Reference.τ).loc Cert.Reference.main_arg0) = m ((c.tc : Thread Cert.Reference.nD Cert.Reference.τ).loc Cert.Reference.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def bitexact_Kernel_Reference [hKernel : Cert.Kernel.Facts] [hReference : Cert.Reference.Facts] : Prop :=
  ∀ (m : (ℓ : Loc Cert.Kernel.nD Cert.Kernel.τ Cert.Kernel.sig) → Buf (Elt Bits) ℓ) (g : Dev Cert.Kernel.nD → PrngReg)
    (m' : (ℓ : Loc Cert.Reference.nD Cert.Reference.τ Cert.Reference.sig) → Buf (Elt Bits) ℓ) (g' : Dev Cert.Reference.nD → PrngReg), Pre_Kernel m →
    (∀ c : Dev Cert.Kernel.nD,
      m ((c.tc : Thread Cert.Kernel.nD Cert.Kernel.τ).loc Cert.Kernel.main_arg0) = Layout.block ⟨2, ![512, 8192]⟩ ⟨2, ![8192, 8192]⟩ 0 16 c (m' (((0 : Dev Cert.Reference.nD).tc : Thread Cert.Reference.nD Cert.Reference.τ).loc Cert.Reference.main_arg0))) →
    ∃ (v0 : Buf (Elt Bits) (((0 : Dev Cert.Reference.nD).tc : Thread Cert.Reference.nD Cert.Reference.τ).loc Cert.Reference.main_v0)),
      θ_run (Cert.Kernel.defs (F := Bits)) (onTc (τ := Cert.Kernel.τ) (Cert.Kernel.main (F := Bits))) ⟨m, fun _ => 0, g⟩ (fun r => ∀ c : Dev Cert.Kernel.nD,
          r.2.mem ((c.tc : Thread Cert.Kernel.nD Cert.Kernel.τ).loc Cert.Kernel.main_v1) = Layout.block ⟨2, ![8192, 512]⟩ ⟨2, ![8192, 8192]⟩ 1 16 c v0
          ∧ r.2.mem ((c.tc : Thread Cert.Kernel.nD Cert.Kernel.τ).loc Cert.Kernel.main_arg0) = m ((c.tc : Thread Cert.Kernel.nD Cert.Kernel.τ).loc Cert.Kernel.main_arg0))
      ∧ θ_run (Cert.Reference.defs (F := Bits)) (onTc (τ := Cert.Reference.τ) (Cert.Reference.main (F := Bits))) ⟨m', fun _ => 0, g'⟩ (fun r =>
          r.2.mem (((0 : Dev Cert.Reference.nD).tc : Thread Cert.Reference.nD Cert.Reference.τ).loc Cert.Reference.main_v0) = v0
          ∧ r.2.mem (((0 : Dev Cert.Reference.nD).tc : Thread Cert.Reference.nD Cert.Reference.τ).loc Cert.Reference.main_arg0) = m' (((0 : Dev Cert.Reference.nD).tc : Thread Cert.Reference.nD Cert.Reference.τ).loc Cert.Reference.main_arg0))

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![512, 8192]⟩ ⟨2, ![8192, 8192]⟩ 0 16 c (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![8192, 512]⟩ ⟨2, ![8192, 8192]⟩ 1 16 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v0) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def Claim : Prop :=
  ∃ (hKernel : Cert.Kernel.Facts) (hReference : Cert.Reference.Facts) (hKernelIdeal : Cert.KernelIdeal.Facts) (hReferenceIdeal : Cert.ReferenceIdeal.Facts),
    quiescent_Kernel (hKernel := hKernel)
    ∧ quiescent_Reference (hReference := hReference)
    ∧ quiescent_KernelIdeal (hKernelIdeal := hKernelIdeal)
    ∧ quiescent_ReferenceIdeal (hReferenceIdeal := hReferenceIdeal)
    ∧ preserves_Kernel_KernelIdeal
    ∧ bitexact_Kernel_Reference (hKernel := hKernel) (hReference := hReference)
    ∧ algebraic_KernelIdeal_ReferenceIdeal (hKernelIdeal := hKernelIdeal) (hReferenceIdeal := hReferenceIdeal)
-- ==== Kernel.lean ====
abbrev S512x8192 : Shape := ⟨2, ![512, 8192]⟩
abbrev S8192x512 : Shape := ⟨2, ![8192, 512]⟩
abbrev S2x512x512 : Shape := ⟨3, ![2, 512, 512]⟩
abbrev S16x512x512 : Shape := ⟨3, ![16, 512, 512]⟩
abbrev S2 : Shape := ⟨1, ![2]⟩
abbrev S_ : Shape := ⟨0, ![]⟩
abbrev S16 : Shape := ⟨1, ![16]⟩
abbrev S1 : Shape := ⟨1, ![1]⟩
abbrev S1x512x512 : Shape := ⟨3, ![1, 512, 512]⟩
abbrev S512x512 : Shape := ⟨2, ![512, 512]⟩

abbrev nBuf : Space → Nat
  | .hbm => 2
  | .vmem => 2
  | .smem => 0
  | _ => 0

abbrev bufTy : (tb : Table) → Fin (tcTables nBuf tb) → BufTy
  | .hbm, ⟨0, _⟩ => ⟨S512x8192, .f32⟩
  | .hbm, ⟨1, _⟩ => ⟨S8192x512, .bf16⟩
  | .local _ .vmem, ⟨0, _⟩ => ⟨S2x512x512, .f32⟩
  | .local _ .vmem, ⟨1, _⟩ => ⟨S16x512x512, .bf16⟩
  | _, _ => ⟨S512x8192, .f32⟩

abbrev bufScoped : (cs : CoreSpace) → Fin (nBuf (.core cs)) → Bool
  | .vmem, ⟨0, _⟩ => true
  | .vmem, ⟨1, _⟩ => true
  | _, _ => false

abbrev semScoped : Fin 1 → Bool
  | ⟨0, _⟩ => false
  | _ => false

abbrev dmaSemScoped : Fin 35 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | _ => false

abbrev sig : RefSig :=
  (ofTc nBuf bufTy 1 35 bufScoped semScoped dmaSemScoped tileCredit tileCredit_eq_zero tileCredit_pos).withBarriers [(0, 0)]

abbrev main_arg0 : Ref sig .tc := ⟨.hbm, 0, rfl⟩
abbrev main_v1 : Ref sig .tc := ⟨.hbm, 1, rfl⟩
abbrev cc0_scratch0 : Ref sig .tc := ⟨.vmem, 0, rfl⟩
abbrev cc0_scratch1 : Ref sig .tc := ⟨.vmem, 1, rfl⟩
abbrev barrier0 : Sem sig := 0

abbrev nD : Nat := 16
abbrev τ : Topo := Topo.v7x

variable {F : FTy → Type} [FloatOps F]

abbrev grid0 : Pipeline.Grid := .none

def k0_dev1 (d0 : Dev nD) : Nat :=
  let c0_i32_8 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v4 : BitVec 32 := Scalar.addi v2 c1_i32_0
  let c16_i32_1 : BitVec 32 := 16#32
  let c0_i32 : BitVec 32 := 0#32
  let v5 : BitVec 1 := Scalar.cmpi .eq c16_i32_1 c0_i32
  let c1_i32_2 : BitVec 32 := 1#32
  let v6 : BitVec 32 := Scalar.select v5 c1_i32_2 c16_i32_1
  let v7 : BitVec 32 := Scalar.remsi v4 v6
  let c0_i32_4 : BitVec 32 := 0#32
  let v9 : BitVec 1 := Scalar.cmpi .slt v7 c0_i32_4
  let c0_i32_5 : BitVec 32 := 0#32
  let v10 : BitVec 1 := Scalar.cmpi .slt v6 c0_i32_5
  let v11 : BitVec 1 := Scalar.xori v9 v10
  let c0_i32_3 : BitVec 32 := 0#32
  let v8 : BitVec 1 := Scalar.cmpi .ne v7 c0_i32_3
  let v12 : BitVec 1 := Scalar.andi v11 v8
  let v13 : BitVec 32 := Scalar.addi v7 v6
  let v14 : BitVec 32 := Scalar.select v12 v13 v7
  let c1_i32_7 : BitVec 32 := 1#32
  let v15 : BitVec 32 := Scalar.muli v14 c1_i32_7
  let v16 : BitVec 32 := Scalar.addi c0_i32_8 v15
  v16.toNat
def k0_dev2 (d0 : Dev nD) : Nat :=
  let c0_i32_17 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32 : BitVec 32 := 2#32
  let v17 : BitVec 32 := Scalar.addi v2 c2_i32
  let c16_i32_9 : BitVec 32 := 16#32
  let c0_i32_10 : BitVec 32 := 0#32
  let v18 : BitVec 1 := Scalar.cmpi .eq c16_i32_9 c0_i32_10
  let c1_i32_11 : BitVec 32 := 1#32
  let v19 : BitVec 32 := Scalar.select v18 c1_i32_11 c16_i32_9
  let v20 : BitVec 32 := Scalar.remsi v17 v19
  let c0_i32_13 : BitVec 32 := 0#32
  let v22 : BitVec 1 := Scalar.cmpi .slt v20 c0_i32_13
  let c0_i32_14 : BitVec 32 := 0#32
  let v23 : BitVec 1 := Scalar.cmpi .slt v19 c0_i32_14
  let v24 : BitVec 1 := Scalar.xori v22 v23
  let c0_i32_12 : BitVec 32 := 0#32
  let v21 : BitVec 1 := Scalar.cmpi .ne v20 c0_i32_12
  let v25 : BitVec 1 := Scalar.andi v24 v21
  let v26 : BitVec 32 := Scalar.addi v20 v19
  let v27 : BitVec 32 := Scalar.select v25 v26 v20
  let c1_i32_16 : BitVec 32 := 1#32
  let v28 : BitVec 32 := Scalar.muli v27 c1_i32_16
  let v29 : BitVec 32 := Scalar.addi c0_i32_17 v28
  v29.toNat
def k0_dev3 (d0 : Dev nD) : Nat :=
  let c0_i32_26 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32 : BitVec 32 := 3#32
  let v30 : BitVec 32 := Scalar.addi v2 c3_i32
  let c16_i32_18 : BitVec 32 := 16#32
  let c0_i32_19 : BitVec 32 := 0#32
  let v31 : BitVec 1 := Scalar.cmpi .eq c16_i32_18 c0_i32_19
  let c1_i32_20 : BitVec 32 := 1#32
  let v32 : BitVec 32 := Scalar.select v31 c1_i32_20 c16_i32_18
  let v33 : BitVec 32 := Scalar.remsi v30 v32
  let c0_i32_22 : BitVec 32 := 0#32
  let v35 : BitVec 1 := Scalar.cmpi .slt v33 c0_i32_22
  let c0_i32_23 : BitVec 32 := 0#32
  let v36 : BitVec 1 := Scalar.cmpi .slt v32 c0_i32_23
  let v37 : BitVec 1 := Scalar.xori v35 v36
  let c0_i32_21 : BitVec 32 := 0#32
  let v34 : BitVec 1 := Scalar.cmpi .ne v33 c0_i32_21
  let v38 : BitVec 1 := Scalar.andi v37 v34
  let v39 : BitVec 32 := Scalar.addi v33 v32
  let v40 : BitVec 32 := Scalar.select v38 v39 v33
  let c1_i32_25 : BitVec 32 := 1#32
  let v41 : BitVec 32 := Scalar.muli v40 c1_i32_25
  let v42 : BitVec 32 := Scalar.addi c0_i32_26 v41
  v42.toNat
def k0_dev4 (d0 : Dev nD) : Nat :=
  let c0_i32_35 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v43 : BitVec 32 := Scalar.addi v2 c4_i32
  let c16_i32_27 : BitVec 32 := 16#32
  let c0_i32_28 : BitVec 32 := 0#32
  let v44 : BitVec 1 := Scalar.cmpi .eq c16_i32_27 c0_i32_28
  let c1_i32_29 : BitVec 32 := 1#32
  let v45 : BitVec 32 := Scalar.select v44 c1_i32_29 c16_i32_27
  let v46 : BitVec 32 := Scalar.remsi v43 v45
  let c0_i32_31 : BitVec 32 := 0#32
  let v48 : BitVec 1 := Scalar.cmpi .slt v46 c0_i32_31
  let c0_i32_32 : BitVec 32 := 0#32
  let v49 : BitVec 1 := Scalar.cmpi .slt v45 c0_i32_32
  let v50 : BitVec 1 := Scalar.xori v48 v49
  let c0_i32_30 : BitVec 32 := 0#32
  let v47 : BitVec 1 := Scalar.cmpi .ne v46 c0_i32_30
  let v51 : BitVec 1 := Scalar.andi v50 v47
  let v52 : BitVec 32 := Scalar.addi v46 v45
  let v53 : BitVec 32 := Scalar.select v51 v52 v46
  let c1_i32_34 : BitVec 32 := 1#32
  let v54 : BitVec 32 := Scalar.muli v53 c1_i32_34
  let v55 : BitVec 32 := Scalar.addi c0_i32_35 v54
  v55.toNat
def k0_dev5 (d0 : Dev nD) : Nat :=
  let c0_i32_44 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32 : BitVec 32 := 5#32
  let v56 : BitVec 32 := Scalar.addi v2 c5_i32
  let c16_i32_36 : BitVec 32 := 16#32
  let c0_i32_37 : BitVec 32 := 0#32
  let v57 : BitVec 1 := Scalar.cmpi .eq c16_i32_36 c0_i32_37
  let c1_i32_38 : BitVec 32 := 1#32
  let v58 : BitVec 32 := Scalar.select v57 c1_i32_38 c16_i32_36
  let v59 : BitVec 32 := Scalar.remsi v56 v58
  let c0_i32_40 : BitVec 32 := 0#32
  let v61 : BitVec 1 := Scalar.cmpi .slt v59 c0_i32_40
  let c0_i32_41 : BitVec 32 := 0#32
  let v62 : BitVec 1 := Scalar.cmpi .slt v58 c0_i32_41
  let v63 : BitVec 1 := Scalar.xori v61 v62
  let c0_i32_39 : BitVec 32 := 0#32
  let v60 : BitVec 1 := Scalar.cmpi .ne v59 c0_i32_39
  let v64 : BitVec 1 := Scalar.andi v63 v60
  let v65 : BitVec 32 := Scalar.addi v59 v58
  let v66 : BitVec 32 := Scalar.select v64 v65 v59
  let c1_i32_43 : BitVec 32 := 1#32
  let v67 : BitVec 32 := Scalar.muli v66 c1_i32_43
  let v68 : BitVec 32 := Scalar.addi c0_i32_44 v67
  v68.toNat
def k0_dev6 (d0 : Dev nD) : Nat :=
  let c0_i32_53 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32 : BitVec 32 := 6#32
  let v69 : BitVec 32 := Scalar.addi v2 c6_i32
  let c16_i32_45 : BitVec 32 := 16#32
  let c0_i32_46 : BitVec 32 := 0#32
  let v70 : BitVec 1 := Scalar.cmpi .eq c16_i32_45 c0_i32_46
  let c1_i32_47 : BitVec 32 := 1#32
  let v71 : BitVec 32 := Scalar.select v70 c1_i32_47 c16_i32_45
  let v72 : BitVec 32 := Scalar.remsi v69 v71
  let c0_i32_49 : BitVec 32 := 0#32
  let v74 : BitVec 1 := Scalar.cmpi .slt v72 c0_i32_49
  let c0_i32_50 : BitVec 32 := 0#32
  let v75 : BitVec 1 := Scalar.cmpi .slt v71 c0_i32_50
  let v76 : BitVec 1 := Scalar.xori v74 v75
  let c0_i32_48 : BitVec 32 := 0#32
  let v73 : BitVec 1 := Scalar.cmpi .ne v72 c0_i32_48
  let v77 : BitVec 1 := Scalar.andi v76 v73
  let v78 : BitVec 32 := Scalar.addi v72 v71
  let v79 : BitVec 32 := Scalar.select v77 v78 v72
  let c1_i32_52 : BitVec 32 := 1#32
  let v80 : BitVec 32 := Scalar.muli v79 c1_i32_52
  let v81 : BitVec 32 := Scalar.addi c0_i32_53 v80
  v81.toNat
def k0_dev7 (d0 : Dev nD) : Nat :=
  let c0_i32_62 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32 : BitVec 32 := 7#32
  let v82 : BitVec 32 := Scalar.addi v2 c7_i32
  let c16_i32_54 : BitVec 32 := 16#32
  let c0_i32_55 : BitVec 32 := 0#32
  let v83 : BitVec 1 := Scalar.cmpi .eq c16_i32_54 c0_i32_55
  let c1_i32_56 : BitVec 32 := 1#32
  let v84 : BitVec 32 := Scalar.select v83 c1_i32_56 c16_i32_54
  let v85 : BitVec 32 := Scalar.remsi v82 v84
  let c0_i32_58 : BitVec 32 := 0#32
  let v87 : BitVec 1 := Scalar.cmpi .slt v85 c0_i32_58
  let c0_i32_59 : BitVec 32 := 0#32
  let v88 : BitVec 1 := Scalar.cmpi .slt v84 c0_i32_59
  let v89 : BitVec 1 := Scalar.xori v87 v88
  let c0_i32_57 : BitVec 32 := 0#32
  let v86 : BitVec 1 := Scalar.cmpi .ne v85 c0_i32_57
  let v90 : BitVec 1 := Scalar.andi v89 v86
  let v91 : BitVec 32 := Scalar.addi v85 v84
  let v92 : BitVec 32 := Scalar.select v90 v91 v85
  let c1_i32_61 : BitVec 32 := 1#32
  let v93 : BitVec 32 := Scalar.muli v92 c1_i32_61
  let v94 : BitVec 32 := Scalar.addi c0_i32_62 v93
  v94.toNat
def k0_dev8 (d0 : Dev nD) : Nat :=
  let c0_i32_71 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32 : BitVec 32 := 8#32
  let v95 : BitVec 32 := Scalar.addi v2 c8_i32
  let c16_i32_63 : BitVec 32 := 16#32
  let c0_i32_64 : BitVec 32 := 0#32
  let v96 : BitVec 1 := Scalar.cmpi .eq c16_i32_63 c0_i32_64
  let c1_i32_65 : BitVec 32 := 1#32
  let v97 : BitVec 32 := Scalar.select v96 c1_i32_65 c16_i32_63
  let v98 : BitVec 32 := Scalar.remsi v95 v97
  let c0_i32_67 : BitVec 32 := 0#32
  let v100 : BitVec 1 := Scalar.cmpi .slt v98 c0_i32_67
  let c0_i32_68 : BitVec 32 := 0#32
  let v101 : BitVec 1 := Scalar.cmpi .slt v97 c0_i32_68
  let v102 : BitVec 1 := Scalar.xori v100 v101
  let c0_i32_66 : BitVec 32 := 0#32
  let v99 : BitVec 1 := Scalar.cmpi .ne v98 c0_i32_66
  let v103 : BitVec 1 := Scalar.andi v102 v99
  let v104 : BitVec 32 := Scalar.addi v98 v97
  let v105 : BitVec 32 := Scalar.select v103 v104 v98
  let c1_i32_70 : BitVec 32 := 1#32
  let v106 : BitVec 32 := Scalar.muli v105 c1_i32_70
  let v107 : BitVec 32 := Scalar.addi c0_i32_71 v106
  v107.toNat
def k0_dev9 (d0 : Dev nD) : Nat :=
  let c0_i32_80 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32 : BitVec 32 := 9#32
  let v108 : BitVec 32 := Scalar.addi v2 c9_i32
  let c16_i32_72 : BitVec 32 := 16#32
  let c0_i32_73 : BitVec 32 := 0#32
  let v109 : BitVec 1 := Scalar.cmpi .eq c16_i32_72 c0_i32_73
  let c1_i32_74 : BitVec 32 := 1#32
  let v110 : BitVec 32 := Scalar.select v109 c1_i32_74 c16_i32_72
  let v111 : BitVec 32 := Scalar.remsi v108 v110
  let c0_i32_76 : BitVec 32 := 0#32
  let v113 : BitVec 1 := Scalar.cmpi .slt v111 c0_i32_76
  let c0_i32_77 : BitVec 32 := 0#32
  let v114 : BitVec 1 := Scalar.cmpi .slt v110 c0_i32_77
  let v115 : BitVec 1 := Scalar.xori v113 v114
  let c0_i32_75 : BitVec 32 := 0#32
  let v112 : BitVec 1 := Scalar.cmpi .ne v111 c0_i32_75
  let v116 : BitVec 1 := Scalar.andi v115 v112
  let v117 : BitVec 32 := Scalar.addi v111 v110
  let v118 : BitVec 32 := Scalar.select v116 v117 v111
  let c1_i32_79 : BitVec 32 := 1#32
  let v119 : BitVec 32 := Scalar.muli v118 c1_i32_79
  let v120 : BitVec 32 := Scalar.addi c0_i32_80 v119
  v120.toNat
def k0_dev10 (d0 : Dev nD) : Nat :=
  let c0_i32_89 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32 : BitVec 32 := 10#32
  let v121 : BitVec 32 := Scalar.addi v2 c10_i32
  let c16_i32_81 : BitVec 32 := 16#32
  let c0_i32_82 : BitVec 32 := 0#32
  let v122 : BitVec 1 := Scalar.cmpi .eq c16_i32_81 c0_i32_82
  let c1_i32_83 : BitVec 32 := 1#32
  let v123 : BitVec 32 := Scalar.select v122 c1_i32_83 c16_i32_81
  let v124 : BitVec 32 := Scalar.remsi v121 v123
  let c0_i32_85 : BitVec 32 := 0#32
  let v126 : BitVec 1 := Scalar.cmpi .slt v124 c0_i32_85
  let c0_i32_86 : BitVec 32 := 0#32
  let v127 : BitVec 1 := Scalar.cmpi .slt v123 c0_i32_86
  let v128 : BitVec 1 := Scalar.xori v126 v127
  let c0_i32_84 : BitVec 32 := 0#32
  let v125 : BitVec 1 := Scalar.cmpi .ne v124 c0_i32_84
  let v129 : BitVec 1 := Scalar.andi v128 v125
  let v130 : BitVec 32 := Scalar.addi v124 v123
  let v131 : BitVec 32 := Scalar.select v129 v130 v124
  let c1_i32_88 : BitVec 32 := 1#32
  let v132 : BitVec 32 := Scalar.muli v131 c1_i32_88
  let v133 : BitVec 32 := Scalar.addi c0_i32_89 v132
  v133.toNat
def k0_dev11 (d0 : Dev nD) : Nat :=
  let c0_i32_98 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32 : BitVec 32 := 11#32
  let v134 : BitVec 32 := Scalar.addi v2 c11_i32
  let c16_i32_90 : BitVec 32 := 16#32
  let c0_i32_91 : BitVec 32 := 0#32
  let v135 : BitVec 1 := Scalar.cmpi .eq c16_i32_90 c0_i32_91
  let c1_i32_92 : BitVec 32 := 1#32
  let v136 : BitVec 32 := Scalar.select v135 c1_i32_92 c16_i32_90
  let v137 : BitVec 32 := Scalar.remsi v134 v136
  let c0_i32_94 : BitVec 32 := 0#32
  let v139 : BitVec 1 := Scalar.cmpi .slt v137 c0_i32_94
  let c0_i32_95 : BitVec 32 := 0#32
  let v140 : BitVec 1 := Scalar.cmpi .slt v136 c0_i32_95
  let v141 : BitVec 1 := Scalar.xori v139 v140
  let c0_i32_93 : BitVec 32 := 0#32
  let v138 : BitVec 1 := Scalar.cmpi .ne v137 c0_i32_93
  let v142 : BitVec 1 := Scalar.andi v141 v138
  let v143 : BitVec 32 := Scalar.addi v137 v136
  let v144 : BitVec 32 := Scalar.select v142 v143 v137
  let c1_i32_97 : BitVec 32 := 1#32
  let v145 : BitVec 32 := Scalar.muli v144 c1_i32_97
  let v146 : BitVec 32 := Scalar.addi c0_i32_98 v145
  v146.toNat
def k0_dev12 (d0 : Dev nD) : Nat :=
  let c0_i32_107 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32 : BitVec 32 := 12#32
  let v147 : BitVec 32 := Scalar.addi v2 c12_i32
  let c16_i32_99 : BitVec 32 := 16#32
  let c0_i32_100 : BitVec 32 := 0#32
  let v148 : BitVec 1 := Scalar.cmpi .eq c16_i32_99 c0_i32_100
  let c1_i32_101 : BitVec 32 := 1#32
  let v149 : BitVec 32 := Scalar.select v148 c1_i32_101 c16_i32_99
  let v150 : BitVec 32 := Scalar.remsi v147 v149
  let c0_i32_103 : BitVec 32 := 0#32
  let v152 : BitVec 1 := Scalar.cmpi .slt v150 c0_i32_103
  let c0_i32_104 : BitVec 32 := 0#32
  let v153 : BitVec 1 := Scalar.cmpi .slt v149 c0_i32_104
  let v154 : BitVec 1 := Scalar.xori v152 v153
  let c0_i32_102 : BitVec 32 := 0#32
  let v151 : BitVec 1 := Scalar.cmpi .ne v150 c0_i32_102
  let v155 : BitVec 1 := Scalar.andi v154 v151
  let v156 : BitVec 32 := Scalar.addi v150 v149
  let v157 : BitVec 32 := Scalar.select v155 v156 v150
  let c1_i32_106 : BitVec 32 := 1#32
  let v158 : BitVec 32 := Scalar.muli v157 c1_i32_106
  let v159 : BitVec 32 := Scalar.addi c0_i32_107 v158
  v159.toNat
def k0_dev13 (d0 : Dev nD) : Nat :=
  let c0_i32_116 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32 : BitVec 32 := 13#32
  let v160 : BitVec 32 := Scalar.addi v2 c13_i32
  let c16_i32_108 : BitVec 32 := 16#32
  let c0_i32_109 : BitVec 32 := 0#32
  let v161 : BitVec 1 := Scalar.cmpi .eq c16_i32_108 c0_i32_109
  let c1_i32_110 : BitVec 32 := 1#32
  let v162 : BitVec 32 := Scalar.select v161 c1_i32_110 c16_i32_108
  let v163 : BitVec 32 := Scalar.remsi v160 v162
  let c0_i32_112 : BitVec 32 := 0#32
  let v165 : BitVec 1 := Scalar.cmpi .slt v163 c0_i32_112
  let c0_i32_113 : BitVec 32 := 0#32
  let v166 : BitVec 1 := Scalar.cmpi .slt v162 c0_i32_113
  let v167 : BitVec 1 := Scalar.xori v165 v166
  let c0_i32_111 : BitVec 32 := 0#32
  let v164 : BitVec 1 := Scalar.cmpi .ne v163 c0_i32_111
  let v168 : BitVec 1 := Scalar.andi v167 v164
  let v169 : BitVec 32 := Scalar.addi v163 v162
  let v170 : BitVec 32 := Scalar.select v168 v169 v163
  let c1_i32_115 : BitVec 32 := 1#32
  let v171 : BitVec 32 := Scalar.muli v170 c1_i32_115
  let v172 : BitVec 32 := Scalar.addi c0_i32_116 v171
  v172.toNat
def k0_dev14 (d0 : Dev nD) : Nat :=
  let c0_i32_125 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32 : BitVec 32 := 14#32
  let v173 : BitVec 32 := Scalar.addi v2 c14_i32
  let c16_i32_117 : BitVec 32 := 16#32
  let c0_i32_118 : BitVec 32 := 0#32
  let v174 : BitVec 1 := Scalar.cmpi .eq c16_i32_117 c0_i32_118
  let c1_i32_119 : BitVec 32 := 1#32
  let v175 : BitVec 32 := Scalar.select v174 c1_i32_119 c16_i32_117
  let v176 : BitVec 32 := Scalar.remsi v173 v175
  let c0_i32_121 : BitVec 32 := 0#32
  let v178 : BitVec 1 := Scalar.cmpi .slt v176 c0_i32_121
  let c0_i32_122 : BitVec 32 := 0#32
  let v179 : BitVec 1 := Scalar.cmpi .slt v175 c0_i32_122
  let v180 : BitVec 1 := Scalar.xori v178 v179
  let c0_i32_120 : BitVec 32 := 0#32
  let v177 : BitVec 1 := Scalar.cmpi .ne v176 c0_i32_120
  let v181 : BitVec 1 := Scalar.andi v180 v177
  let v182 : BitVec 32 := Scalar.addi v176 v175
  let v183 : BitVec 32 := Scalar.select v181 v182 v176
  let c1_i32_124 : BitVec 32 := 1#32
  let v184 : BitVec 32 := Scalar.muli v183 c1_i32_124
  let v185 : BitVec 32 := Scalar.addi c0_i32_125 v184
  v185.toNat
def k0_dev15 (d0 : Dev nD) : Nat :=
  let c0_i32_134 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32 : BitVec 32 := 15#32
  let v186 : BitVec 32 := Scalar.addi v2 c15_i32
  let c16_i32_126 : BitVec 32 := 16#32
  let c0_i32_127 : BitVec 32 := 0#32
  let v187 : BitVec 1 := Scalar.cmpi .eq c16_i32_126 c0_i32_127
  let c1_i32_128 : BitVec 32 := 1#32
  let v188 : BitVec 32 := Scalar.select v187 c1_i32_128 c16_i32_126
  let v189 : BitVec 32 := Scalar.remsi v186 v188
  let c0_i32_130 : BitVec 32 := 0#32
  let v191 : BitVec 1 := Scalar.cmpi .slt v189 c0_i32_130
  let c0_i32_131 : BitVec 32 := 0#32
  let v192 : BitVec 1 := Scalar.cmpi .slt v188 c0_i32_131
  let v193 : BitVec 1 := Scalar.xori v191 v192
  let c0_i32_129 : BitVec 32 := 0#32
  let v190 : BitVec 1 := Scalar.cmpi .ne v189 c0_i32_129
  let v194 : BitVec 1 := Scalar.andi v193 v190
  let v195 : BitVec 32 := Scalar.addi v189 v188
  let v196 : BitVec 32 := Scalar.select v194 v195 v189
  let c1_i32_133 : BitVec 32 := 1#32
  let v197 : BitVec 32 := Scalar.muli v196 c1_i32_133
  let v198 : BitVec 32 := Scalar.addi c0_i32_134 v197
  v198.toNat
def k0_off1 (d0 : Dev nD) (c1_i32_136 : BitVec 32) : Fin 2 → Nat :=
  let c0_i32_259 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v199 : BitVec 32 := Scalar.addi v2 c1_i32_136
  let c16_i32_137 : BitVec 32 := 16#32
  let c0_i32_138 : BitVec 32 := 0#32
  let v200 : BitVec 1 := Scalar.cmpi .eq c16_i32_137 c0_i32_138
  let c1_i32_139 : BitVec 32 := 1#32
  let v201 : BitVec 32 := Scalar.select v200 c1_i32_139 c16_i32_137
  let v202 : BitVec 32 := Scalar.remsi v199 v201
  let c0_i32_141 : BitVec 32 := 0#32
  let v204 : BitVec 1 := Scalar.cmpi .slt v202 c0_i32_141
  let c0_i32_142 : BitVec 32 := 0#32
  let v205 : BitVec 1 := Scalar.cmpi .slt v201 c0_i32_142
  let v206 : BitVec 1 := Scalar.xori v204 v205
  let c0_i32_140 : BitVec 32 := 0#32
  let v203 : BitVec 1 := Scalar.cmpi .ne v202 c0_i32_140
  let v207 : BitVec 1 := Scalar.andi v206 v203
  let v208 : BitVec 32 := Scalar.addi v202 v201
  let v209 : BitVec 32 := Scalar.select v207 v208 v202
  let c512_i32 : BitVec 32 := 512#32
  let v210 : BitVec 32 := Scalar.muli v209 c512_i32
  ![0, v210.toNat]
def k0_off2 (d0 : Dev nD) (c1_i32_260 : BitVec 32) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v384 : BitVec 32 := Scalar.addi v2 c1_i32_260
  let c16_i32_261 : BitVec 32 := 16#32
  let c0_i32_262 : BitVec 32 := 0#32
  let v385 : BitVec 1 := Scalar.cmpi .eq c16_i32_261 c0_i32_262
  let c1_i32_263 : BitVec 32 := 1#32
  let v386 : BitVec 32 := Scalar.select v385 c1_i32_263 c16_i32_261
  let v387 : BitVec 32 := Scalar.remsi v384 v386
  let c0_i32_265 : BitVec 32 := 0#32
  let v389 : BitVec 1 := Scalar.cmpi .slt v387 c0_i32_265
  let c0_i32_266 : BitVec 32 := 0#32
  let v390 : BitVec 1 := Scalar.cmpi .slt v386 c0_i32_266
  let v391 : BitVec 1 := Scalar.xori v389 v390
  let c0_i32_264 : BitVec 32 := 0#32
  let v388 : BitVec 1 := Scalar.cmpi .ne v387 c0_i32_264
  let v392 : BitVec 1 := Scalar.andi v391 v388
  let v393 : BitVec 32 := Scalar.addi v387 v386
  let v394 : BitVec 32 := Scalar.select v392 v393 v387
  let v409 : Index := Scalar.indexCast v394
  let c0_279 : Index := 0#32
  let c0_280 : Index := 0#32
  ![v409.toNat, 0, 0]
def k0_off3 (d0 : Dev nD) (c1_i32_260 : BitVec 32) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v384 : BitVec 32 := Scalar.addi v2 c1_i32_260
  let c16_i32_261 : BitVec 32 := 16#32
  let c0_i32_262 : BitVec 32 := 0#32
  let v385 : BitVec 1 := Scalar.cmpi .eq c16_i32_261 c0_i32_262
  let c1_i32_263 : BitVec 32 := 1#32
  let v386 : BitVec 32 := Scalar.select v385 c1_i32_263 c16_i32_261
  let v387 : BitVec 32 := Scalar.remsi v384 v386
  let c0_i32_265 : BitVec 32 := 0#32
  let v389 : BitVec 1 := Scalar.cmpi .slt v387 c0_i32_265
  let c0_i32_266 : BitVec 32 := 0#32
  let v390 : BitVec 1 := Scalar.cmpi .slt v386 c0_i32_266
  let v391 : BitVec 1 := Scalar.xori v389 v390
  let c0_i32_264 : BitVec 32 := 0#32
  let v388 : BitVec 1 := Scalar.cmpi .ne v387 c0_i32_264
  let v392 : BitVec 1 := Scalar.andi v391 v388
  let v393 : BitVec 32 := Scalar.addi v387 v386
  let v394 : BitVec 32 := Scalar.select v392 v393 v387
  ![v394.toNat]
def k0_off4 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off5 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c512_i32_281 : BitVec 32 := 512#32
  let v413 : BitVec 32 := Scalar.muli v2 c512_i32_281
  let c0_i32_284 : BitVec 32 := 0#32
  ![v413.toNat, 0]
def k0_off6 (d0 : Dev nD) (c1_i32_260 : BitVec 32) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v384 : BitVec 32 := Scalar.addi v2 c1_i32_260
  let c16_i32_261 : BitVec 32 := 16#32
  let c0_i32_262 : BitVec 32 := 0#32
  let v385 : BitVec 1 := Scalar.cmpi .eq c16_i32_261 c0_i32_262
  let c1_i32_263 : BitVec 32 := 1#32
  let v386 : BitVec 32 := Scalar.select v385 c1_i32_263 c16_i32_261
  let v387 : BitVec 32 := Scalar.remsi v384 v386
  let c0_i32_265 : BitVec 32 := 0#32
  let v389 : BitVec 1 := Scalar.cmpi .slt v387 c0_i32_265
  let c0_i32_266 : BitVec 32 := 0#32
  let v390 : BitVec 1 := Scalar.cmpi .slt v386 c0_i32_266
  let v391 : BitVec 1 := Scalar.xori v389 v390
  let c0_i32_264 : BitVec 32 := 0#32
  let v388 : BitVec 1 := Scalar.cmpi .ne v387 c0_i32_264
  let v392 : BitVec 1 := Scalar.andi v391 v388
  let v393 : BitVec 32 := Scalar.addi v387 v386
  let v394 : BitVec 32 := Scalar.select v392 v393 v387
  let c0_i32_285 : BitVec 32 := 0#32
  let c0_i32_286 : BitVec 32 := 0#32
  ![v394.toNat, 0, 0]
def k0_dev16 (d0 : Dev nD) : Nat :=
  let c0_i32_283 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_260 : BitVec 32 := 1#32
  let v384 : BitVec 32 := Scalar.addi v2 c1_i32_260
  let c16_i32_261 : BitVec 32 := 16#32
  let c0_i32_262 : BitVec 32 := 0#32
  let v385 : BitVec 1 := Scalar.cmpi .eq c16_i32_261 c0_i32_262
  let c1_i32_263 : BitVec 32 := 1#32
  let v386 : BitVec 32 := Scalar.select v385 c1_i32_263 c16_i32_261
  let v387 : BitVec 32 := Scalar.remsi v384 v386
  let c0_i32_265 : BitVec 32 := 0#32
  let v389 : BitVec 1 := Scalar.cmpi .slt v387 c0_i32_265
  let c0_i32_266 : BitVec 32 := 0#32
  let v390 : BitVec 1 := Scalar.cmpi .slt v386 c0_i32_266
  let v391 : BitVec 1 := Scalar.xori v389 v390
  let c0_i32_264 : BitVec 32 := 0#32
  let v388 : BitVec 1 := Scalar.cmpi .ne v387 c0_i32_264
  let v392 : BitVec 1 := Scalar.andi v391 v388
  let v393 : BitVec 32 := Scalar.addi v387 v386
  let v394 : BitVec 32 := Scalar.select v392 v393 v387
  let c1_i32_282 : BitVec 32 := 1#32
  let v414 : BitVec 32 := Scalar.muli v394 c1_i32_282
  let v415 : BitVec 32 := Scalar.addi c0_i32_283 v414
  v415.toNat
def k0_dev17 (d0 : Dev nD) : Nat :=
  let c0_i32_310 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_287 : BitVec 32 := 2#32
  let v423 : BitVec 32 := Scalar.addi v2 c2_i32_287
  let c16_i32_288 : BitVec 32 := 16#32
  let c0_i32_289 : BitVec 32 := 0#32
  let v424 : BitVec 1 := Scalar.cmpi .eq c16_i32_288 c0_i32_289
  let c1_i32_290 : BitVec 32 := 1#32
  let v425 : BitVec 32 := Scalar.select v424 c1_i32_290 c16_i32_288
  let v426 : BitVec 32 := Scalar.remsi v423 v425
  let c0_i32_292 : BitVec 32 := 0#32
  let v428 : BitVec 1 := Scalar.cmpi .slt v426 c0_i32_292
  let c0_i32_293 : BitVec 32 := 0#32
  let v429 : BitVec 1 := Scalar.cmpi .slt v425 c0_i32_293
  let v430 : BitVec 1 := Scalar.xori v428 v429
  let c0_i32_291 : BitVec 32 := 0#32
  let v427 : BitVec 1 := Scalar.cmpi .ne v426 c0_i32_291
  let v431 : BitVec 1 := Scalar.andi v430 v427
  let v432 : BitVec 32 := Scalar.addi v426 v425
  let v433 : BitVec 32 := Scalar.select v431 v432 v426
  let c1_i32_309 : BitVec 32 := 1#32
  let v453 : BitVec 32 := Scalar.muli v433 c1_i32_309
  let v454 : BitVec 32 := Scalar.addi c0_i32_310 v453
  v454.toNat
def k0_dev18 (d0 : Dev nD) : Nat :=
  let c0_i32_338 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_314 : BitVec 32 := 3#32
  let v462 : BitVec 32 := Scalar.addi v2 c3_i32_314
  let c16_i32_315 : BitVec 32 := 16#32
  let c0_i32_316 : BitVec 32 := 0#32
  let v463 : BitVec 1 := Scalar.cmpi .eq c16_i32_315 c0_i32_316
  let c1_i32_317 : BitVec 32 := 1#32
  let v464 : BitVec 32 := Scalar.select v463 c1_i32_317 c16_i32_315
  let v465 : BitVec 32 := Scalar.remsi v462 v464
  let c0_i32_319 : BitVec 32 := 0#32
  let v467 : BitVec 1 := Scalar.cmpi .slt v465 c0_i32_319
  let c0_i32_320 : BitVec 32 := 0#32
  let v468 : BitVec 1 := Scalar.cmpi .slt v464 c0_i32_320
  let v469 : BitVec 1 := Scalar.xori v467 v468
  let c0_i32_318 : BitVec 32 := 0#32
  let v466 : BitVec 1 := Scalar.cmpi .ne v465 c0_i32_318
  let v470 : BitVec 1 := Scalar.andi v469 v466
  let v471 : BitVec 32 := Scalar.addi v465 v464
  let v472 : BitVec 32 := Scalar.select v470 v471 v465
  let c1_i32_337 : BitVec 32 := 1#32
  let v492 : BitVec 32 := Scalar.muli v472 c1_i32_337
  let v493 : BitVec 32 := Scalar.addi c0_i32_338 v492
  v493.toNat
def k0_dev19 (d0 : Dev nD) : Nat :=
  let c0_i32_366 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_342 : BitVec 32 := 4#32
  let v501 : BitVec 32 := Scalar.addi v2 c4_i32_342
  let c16_i32_343 : BitVec 32 := 16#32
  let c0_i32_344 : BitVec 32 := 0#32
  let v502 : BitVec 1 := Scalar.cmpi .eq c16_i32_343 c0_i32_344
  let c1_i32_345 : BitVec 32 := 1#32
  let v503 : BitVec 32 := Scalar.select v502 c1_i32_345 c16_i32_343
  let v504 : BitVec 32 := Scalar.remsi v501 v503
  let c0_i32_347 : BitVec 32 := 0#32
  let v506 : BitVec 1 := Scalar.cmpi .slt v504 c0_i32_347
  let c0_i32_348 : BitVec 32 := 0#32
  let v507 : BitVec 1 := Scalar.cmpi .slt v503 c0_i32_348
  let v508 : BitVec 1 := Scalar.xori v506 v507
  let c0_i32_346 : BitVec 32 := 0#32
  let v505 : BitVec 1 := Scalar.cmpi .ne v504 c0_i32_346
  let v509 : BitVec 1 := Scalar.andi v508 v505
  let v510 : BitVec 32 := Scalar.addi v504 v503
  let v511 : BitVec 32 := Scalar.select v509 v510 v504
  let c1_i32_365 : BitVec 32 := 1#32
  let v531 : BitVec 32 := Scalar.muli v511 c1_i32_365
  let v532 : BitVec 32 := Scalar.addi c0_i32_366 v531
  v532.toNat
def k0_dev20 (d0 : Dev nD) : Nat :=
  let c0_i32_394 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32_370 : BitVec 32 := 5#32
  let v540 : BitVec 32 := Scalar.addi v2 c5_i32_370
  let c16_i32_371 : BitVec 32 := 16#32
  let c0_i32_372 : BitVec 32 := 0#32
  let v541 : BitVec 1 := Scalar.cmpi .eq c16_i32_371 c0_i32_372
  let c1_i32_373 : BitVec 32 := 1#32
  let v542 : BitVec 32 := Scalar.select v541 c1_i32_373 c16_i32_371
  let v543 : BitVec 32 := Scalar.remsi v540 v542
  let c0_i32_375 : BitVec 32 := 0#32
  let v545 : BitVec 1 := Scalar.cmpi .slt v543 c0_i32_375
  let c0_i32_376 : BitVec 32 := 0#32
  let v546 : BitVec 1 := Scalar.cmpi .slt v542 c0_i32_376
  let v547 : BitVec 1 := Scalar.xori v545 v546
  let c0_i32_374 : BitVec 32 := 0#32
  let v544 : BitVec 1 := Scalar.cmpi .ne v543 c0_i32_374
  let v548 : BitVec 1 := Scalar.andi v547 v544
  let v549 : BitVec 32 := Scalar.addi v543 v542
  let v550 : BitVec 32 := Scalar.select v548 v549 v543
  let c1_i32_393 : BitVec 32 := 1#32
  let v570 : BitVec 32 := Scalar.muli v550 c1_i32_393
  let v571 : BitVec 32 := Scalar.addi c0_i32_394 v570
  v571.toNat
def k0_dev21 (d0 : Dev nD) : Nat :=
  let c0_i32_422 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32_398 : BitVec 32 := 6#32
  let v579 : BitVec 32 := Scalar.addi v2 c6_i32_398
  let c16_i32_399 : BitVec 32 := 16#32
  let c0_i32_400 : BitVec 32 := 0#32
  let v580 : BitVec 1 := Scalar.cmpi .eq c16_i32_399 c0_i32_400
  let c1_i32_401 : BitVec 32 := 1#32
  let v581 : BitVec 32 := Scalar.select v580 c1_i32_401 c16_i32_399
  let v582 : BitVec 32 := Scalar.remsi v579 v581
  let c0_i32_403 : BitVec 32 := 0#32
  let v584 : BitVec 1 := Scalar.cmpi .slt v582 c0_i32_403
  let c0_i32_404 : BitVec 32 := 0#32
  let v585 : BitVec 1 := Scalar.cmpi .slt v581 c0_i32_404
  let v586 : BitVec 1 := Scalar.xori v584 v585
  let c0_i32_402 : BitVec 32 := 0#32
  let v583 : BitVec 1 := Scalar.cmpi .ne v582 c0_i32_402
  let v587 : BitVec 1 := Scalar.andi v586 v583
  let v588 : BitVec 32 := Scalar.addi v582 v581
  let v589 : BitVec 32 := Scalar.select v587 v588 v582
  let c1_i32_421 : BitVec 32 := 1#32
  let v609 : BitVec 32 := Scalar.muli v589 c1_i32_421
  let v610 : BitVec 32 := Scalar.addi c0_i32_422 v609
  v610.toNat
def k0_dev22 (d0 : Dev nD) : Nat :=
  let c0_i32_450 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32_426 : BitVec 32 := 7#32
  let v618 : BitVec 32 := Scalar.addi v2 c7_i32_426
  let c16_i32_427 : BitVec 32 := 16#32
  let c0_i32_428 : BitVec 32 := 0#32
  let v619 : BitVec 1 := Scalar.cmpi .eq c16_i32_427 c0_i32_428
  let c1_i32_429 : BitVec 32 := 1#32
  let v620 : BitVec 32 := Scalar.select v619 c1_i32_429 c16_i32_427
  let v621 : BitVec 32 := Scalar.remsi v618 v620
  let c0_i32_431 : BitVec 32 := 0#32
  let v623 : BitVec 1 := Scalar.cmpi .slt v621 c0_i32_431
  let c0_i32_432 : BitVec 32 := 0#32
  let v624 : BitVec 1 := Scalar.cmpi .slt v620 c0_i32_432
  let v625 : BitVec 1 := Scalar.xori v623 v624
  let c0_i32_430 : BitVec 32 := 0#32
  let v622 : BitVec 1 := Scalar.cmpi .ne v621 c0_i32_430
  let v626 : BitVec 1 := Scalar.andi v625 v622
  let v627 : BitVec 32 := Scalar.addi v621 v620
  let v628 : BitVec 32 := Scalar.select v626 v627 v621
  let c1_i32_449 : BitVec 32 := 1#32
  let v648 : BitVec 32 := Scalar.muli v628 c1_i32_449
  let v649 : BitVec 32 := Scalar.addi c0_i32_450 v648
  v649.toNat
def k0_dev23 (d0 : Dev nD) : Nat :=
  let c0_i32_478 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_454 : BitVec 32 := 8#32
  let v657 : BitVec 32 := Scalar.addi v2 c8_i32_454
  let c16_i32_455 : BitVec 32 := 16#32
  let c0_i32_456 : BitVec 32 := 0#32
  let v658 : BitVec 1 := Scalar.cmpi .eq c16_i32_455 c0_i32_456
  let c1_i32_457 : BitVec 32 := 1#32
  let v659 : BitVec 32 := Scalar.select v658 c1_i32_457 c16_i32_455
  let v660 : BitVec 32 := Scalar.remsi v657 v659
  let c0_i32_459 : BitVec 32 := 0#32
  let v662 : BitVec 1 := Scalar.cmpi .slt v660 c0_i32_459
  let c0_i32_460 : BitVec 32 := 0#32
  let v663 : BitVec 1 := Scalar.cmpi .slt v659 c0_i32_460
  let v664 : BitVec 1 := Scalar.xori v662 v663
  let c0_i32_458 : BitVec 32 := 0#32
  let v661 : BitVec 1 := Scalar.cmpi .ne v660 c0_i32_458
  let v665 : BitVec 1 := Scalar.andi v664 v661
  let v666 : BitVec 32 := Scalar.addi v660 v659
  let v667 : BitVec 32 := Scalar.select v665 v666 v660
  let c1_i32_477 : BitVec 32 := 1#32
  let v687 : BitVec 32 := Scalar.muli v667 c1_i32_477
  let v688 : BitVec 32 := Scalar.addi c0_i32_478 v687
  v688.toNat
def k0_dev24 (d0 : Dev nD) : Nat :=
  let c0_i32_506 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32_482 : BitVec 32 := 9#32
  let v696 : BitVec 32 := Scalar.addi v2 c9_i32_482
  let c16_i32_483 : BitVec 32 := 16#32
  let c0_i32_484 : BitVec 32 := 0#32
  let v697 : BitVec 1 := Scalar.cmpi .eq c16_i32_483 c0_i32_484
  let c1_i32_485 : BitVec 32 := 1#32
  let v698 : BitVec 32 := Scalar.select v697 c1_i32_485 c16_i32_483
  let v699 : BitVec 32 := Scalar.remsi v696 v698
  let c0_i32_487 : BitVec 32 := 0#32
  let v701 : BitVec 1 := Scalar.cmpi .slt v699 c0_i32_487
  let c0_i32_488 : BitVec 32 := 0#32
  let v702 : BitVec 1 := Scalar.cmpi .slt v698 c0_i32_488
  let v703 : BitVec 1 := Scalar.xori v701 v702
  let c0_i32_486 : BitVec 32 := 0#32
  let v700 : BitVec 1 := Scalar.cmpi .ne v699 c0_i32_486
  let v704 : BitVec 1 := Scalar.andi v703 v700
  let v705 : BitVec 32 := Scalar.addi v699 v698
  let v706 : BitVec 32 := Scalar.select v704 v705 v699
  let c1_i32_505 : BitVec 32 := 1#32
  let v726 : BitVec 32 := Scalar.muli v706 c1_i32_505
  let v727 : BitVec 32 := Scalar.addi c0_i32_506 v726
  v727.toNat
def k0_dev25 (d0 : Dev nD) : Nat :=
  let c0_i32_534 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32_510 : BitVec 32 := 10#32
  let v735 : BitVec 32 := Scalar.addi v2 c10_i32_510
  let c16_i32_511 : BitVec 32 := 16#32
  let c0_i32_512 : BitVec 32 := 0#32
  let v736 : BitVec 1 := Scalar.cmpi .eq c16_i32_511 c0_i32_512
  let c1_i32_513 : BitVec 32 := 1#32
  let v737 : BitVec 32 := Scalar.select v736 c1_i32_513 c16_i32_511
  let v738 : BitVec 32 := Scalar.remsi v735 v737
  let c0_i32_515 : BitVec 32 := 0#32
  let v740 : BitVec 1 := Scalar.cmpi .slt v738 c0_i32_515
  let c0_i32_516 : BitVec 32 := 0#32
  let v741 : BitVec 1 := Scalar.cmpi .slt v737 c0_i32_516
  let v742 : BitVec 1 := Scalar.xori v740 v741
  let c0_i32_514 : BitVec 32 := 0#32
  let v739 : BitVec 1 := Scalar.cmpi .ne v738 c0_i32_514
  let v743 : BitVec 1 := Scalar.andi v742 v739
  let v744 : BitVec 32 := Scalar.addi v738 v737
  let v745 : BitVec 32 := Scalar.select v743 v744 v738
  let c1_i32_533 : BitVec 32 := 1#32
  let v765 : BitVec 32 := Scalar.muli v745 c1_i32_533
  let v766 : BitVec 32 := Scalar.addi c0_i32_534 v765
  v766.toNat
def k0_dev26 (d0 : Dev nD) : Nat :=
  let c0_i32_562 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32_538 : BitVec 32 := 11#32
  let v774 : BitVec 32 := Scalar.addi v2 c11_i32_538
  let c16_i32_539 : BitVec 32 := 16#32
  let c0_i32_540 : BitVec 32 := 0#32
  let v775 : BitVec 1 := Scalar.cmpi .eq c16_i32_539 c0_i32_540
  let c1_i32_541 : BitVec 32 := 1#32
  let v776 : BitVec 32 := Scalar.select v775 c1_i32_541 c16_i32_539
  let v777 : BitVec 32 := Scalar.remsi v774 v776
  let c0_i32_543 : BitVec 32 := 0#32
  let v779 : BitVec 1 := Scalar.cmpi .slt v777 c0_i32_543
  let c0_i32_544 : BitVec 32 := 0#32
  let v780 : BitVec 1 := Scalar.cmpi .slt v776 c0_i32_544
  let v781 : BitVec 1 := Scalar.xori v779 v780
  let c0_i32_542 : BitVec 32 := 0#32
  let v778 : BitVec 1 := Scalar.cmpi .ne v777 c0_i32_542
  let v782 : BitVec 1 := Scalar.andi v781 v778
  let v783 : BitVec 32 := Scalar.addi v777 v776
  let v784 : BitVec 32 := Scalar.select v782 v783 v777
  let c1_i32_561 : BitVec 32 := 1#32
  let v804 : BitVec 32 := Scalar.muli v784 c1_i32_561
  let v805 : BitVec 32 := Scalar.addi c0_i32_562 v804
  v805.toNat
def k0_dev27 (d0 : Dev nD) : Nat :=
  let c0_i32_590 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32_566 : BitVec 32 := 12#32
  let v813 : BitVec 32 := Scalar.addi v2 c12_i32_566
  let c16_i32_567 : BitVec 32 := 16#32
  let c0_i32_568 : BitVec 32 := 0#32
  let v814 : BitVec 1 := Scalar.cmpi .eq c16_i32_567 c0_i32_568
  let c1_i32_569 : BitVec 32 := 1#32
  let v815 : BitVec 32 := Scalar.select v814 c1_i32_569 c16_i32_567
  let v816 : BitVec 32 := Scalar.remsi v813 v815
  let c0_i32_571 : BitVec 32 := 0#32
  let v818 : BitVec 1 := Scalar.cmpi .slt v816 c0_i32_571
  let c0_i32_572 : BitVec 32 := 0#32
  let v819 : BitVec 1 := Scalar.cmpi .slt v815 c0_i32_572
  let v820 : BitVec 1 := Scalar.xori v818 v819
  let c0_i32_570 : BitVec 32 := 0#32
  let v817 : BitVec 1 := Scalar.cmpi .ne v816 c0_i32_570
  let v821 : BitVec 1 := Scalar.andi v820 v817
  let v822 : BitVec 32 := Scalar.addi v816 v815
  let v823 : BitVec 32 := Scalar.select v821 v822 v816
  let c1_i32_589 : BitVec 32 := 1#32
  let v843 : BitVec 32 := Scalar.muli v823 c1_i32_589
  let v844 : BitVec 32 := Scalar.addi c0_i32_590 v843
  v844.toNat
def k0_dev28 (d0 : Dev nD) : Nat :=
  let c0_i32_618 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32_594 : BitVec 32 := 13#32
  let v852 : BitVec 32 := Scalar.addi v2 c13_i32_594
  let c16_i32_595 : BitVec 32 := 16#32
  let c0_i32_596 : BitVec 32 := 0#32
  let v853 : BitVec 1 := Scalar.cmpi .eq c16_i32_595 c0_i32_596
  let c1_i32_597 : BitVec 32 := 1#32
  let v854 : BitVec 32 := Scalar.select v853 c1_i32_597 c16_i32_595
  let v855 : BitVec 32 := Scalar.remsi v852 v854
  let c0_i32_599 : BitVec 32 := 0#32
  let v857 : BitVec 1 := Scalar.cmpi .slt v855 c0_i32_599
  let c0_i32_600 : BitVec 32 := 0#32
  let v858 : BitVec 1 := Scalar.cmpi .slt v854 c0_i32_600
  let v859 : BitVec 1 := Scalar.xori v857 v858
  let c0_i32_598 : BitVec 32 := 0#32
  let v856 : BitVec 1 := Scalar.cmpi .ne v855 c0_i32_598
  let v860 : BitVec 1 := Scalar.andi v859 v856
  let v861 : BitVec 32 := Scalar.addi v855 v854
  let v862 : BitVec 32 := Scalar.select v860 v861 v855
  let c1_i32_617 : BitVec 32 := 1#32
  let v882 : BitVec 32 := Scalar.muli v862 c1_i32_617
  let v883 : BitVec 32 := Scalar.addi c0_i32_618 v882
  v883.toNat
def k0_dev29 (d0 : Dev nD) : Nat :=
  let c0_i32_646 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32_622 : BitVec 32 := 14#32
  let v891 : BitVec 32 := Scalar.addi v2 c14_i32_622
  let c16_i32_623 : BitVec 32 := 16#32
  let c0_i32_624 : BitVec 32 := 0#32
  let v892 : BitVec 1 := Scalar.cmpi .eq c16_i32_623 c0_i32_624
  let c1_i32_625 : BitVec 32 := 1#32
  let v893 : BitVec 32 := Scalar.select v892 c1_i32_625 c16_i32_623
  let v894 : BitVec 32 := Scalar.remsi v891 v893
  let c0_i32_627 : BitVec 32 := 0#32
  let v896 : BitVec 1 := Scalar.cmpi .slt v894 c0_i32_627
  let c0_i32_628 : BitVec 32 := 0#32
  let v897 : BitVec 1 := Scalar.cmpi .slt v893 c0_i32_628
  let v898 : BitVec 1 := Scalar.xori v896 v897
  let c0_i32_626 : BitVec 32 := 0#32
  let v895 : BitVec 1 := Scalar.cmpi .ne v894 c0_i32_626
  let v899 : BitVec 1 := Scalar.andi v898 v895
  let v900 : BitVec 32 := Scalar.addi v894 v893
  let v901 : BitVec 32 := Scalar.select v899 v900 v894
  let c1_i32_645 : BitVec 32 := 1#32
  let v921 : BitVec 32 := Scalar.muli v901 c1_i32_645
  let v922 : BitVec 32 := Scalar.addi c0_i32_646 v921
  v922.toNat
def k0_dev30 (d0 : Dev nD) : Nat :=
  let c0_i32_669 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_650 : BitVec 32 := 15#32
  let v930 : BitVec 32 := Scalar.addi v2 c15_i32_650
  let c16_i32_651 : BitVec 32 := 16#32
  let c0_i32_652 : BitVec 32 := 0#32
  let v931 : BitVec 1 := Scalar.cmpi .eq c16_i32_651 c0_i32_652
  let c1_i32_653 : BitVec 32 := 1#32
  let v932 : BitVec 32 := Scalar.select v931 c1_i32_653 c16_i32_651
  let v933 : BitVec 32 := Scalar.remsi v930 v932
  let c0_i32_655 : BitVec 32 := 0#32
  let v935 : BitVec 1 := Scalar.cmpi .slt v933 c0_i32_655
  let c0_i32_656 : BitVec 32 := 0#32
  let v936 : BitVec 1 := Scalar.cmpi .slt v932 c0_i32_656
  let v937 : BitVec 1 := Scalar.xori v935 v936
  let c0_i32_654 : BitVec 32 := 0#32
  let v934 : BitVec 1 := Scalar.cmpi .ne v933 c0_i32_654
  let v938 : BitVec 1 := Scalar.andi v937 v934
  let v939 : BitVec 32 := Scalar.addi v933 v932
  let v940 : BitVec 32 := Scalar.select v938 v939 v933
  let c1_i32_668 : BitVec 32 := 1#32
  let v955 : BitVec 32 := Scalar.muli v940 c1_i32_668
  let v956 : BitVec 32 := Scalar.addi c0_i32_669 v955
  v956.toNat
def k0_off7 (d0 : Dev nD) : Fin 2 → Nat :=
  let c0_i32_678 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c512_i32_673 : BitVec 32 := 512#32
  let v964 : BitVec 32 := Scalar.muli v2 c512_i32_673
  ![0, v964.toNat]
def k0_off8 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v979 : Index := Scalar.indexCast v2
  let c0_687 : Index := 0#32
  let c0_688 : Index := 0#32
  ![v979.toNat, 0, 0]
def k0_off9 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_691 : BitVec 32 := 0#32
  let c0_i32_692 : BitVec 32 := 0#32
  ![v2.toNat, 0, 0]
def k0_off10 (d0 : Dev nD) (c1_i32_693 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v987 : BitVec 32 := Scalar.addi v2 c1_i32_693
  let c16_i32_694 : BitVec 32 := 16#32
  let c0_i32_695 : BitVec 32 := 0#32
  let v988 : BitVec 1 := Scalar.cmpi .eq c16_i32_694 c0_i32_695
  let c1_i32_696 : BitVec 32 := 1#32
  let v989 : BitVec 32 := Scalar.select v988 c1_i32_696 c16_i32_694
  let v990 : BitVec 32 := Scalar.remsi v987 v989
  let c0_i32_698 : BitVec 32 := 0#32
  let v992 : BitVec 1 := Scalar.cmpi .slt v990 c0_i32_698
  let c0_i32_699 : BitVec 32 := 0#32
  let v993 : BitVec 1 := Scalar.cmpi .slt v989 c0_i32_699
  let v994 : BitVec 1 := Scalar.xori v992 v993
  let c0_i32_697 : BitVec 32 := 0#32
  let v991 : BitVec 1 := Scalar.cmpi .ne v990 c0_i32_697
  let v995 : BitVec 1 := Scalar.andi v994 v991
  let v996 : BitVec 32 := Scalar.addi v990 v989
  let v997 : BitVec 32 := Scalar.select v995 v996 v990
  let c512_i32_700 : BitVec 32 := 512#32
  let v998 : BitVec 32 := Scalar.muli v997 c512_i32_700
  let c0_i32_703 : BitVec 32 := 0#32
  ![v998.toNat, 0]
-- ==== Reference.lean ====
abbrev S8192x8192 : Shape := ⟨2, ![8192, 8192]⟩

abbrev nBuf : Space → Nat
  | .hbm => 2
  | .vmem => 0
  | .smem => 0
  | _ => 0

abbrev bufTy : (tb : Table) → Fin (tcTables nBuf tb) → BufTy
  | .hbm, ⟨0, _⟩ => ⟨S8192x8192, .f32⟩
  | .hbm, ⟨1, _⟩ => ⟨S8192x8192, .bf16⟩
  | _, _ => ⟨S8192x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩

abbrev nD : Nat := 1
abbrev τ : Topo := Topo.v7x

variable {F : FTy → Type} [FloatOps F]
-- ==== Proof.Steps.lean ====
/-
  The kernel's body as four repetitions. What a device does is: signal its fifteen peers and wait for theirs; fetch,
  round and send one block per peer, the fetch of the next block started before the present one is rounded; the same for its
  own block, copied rather than sent; and the waits for what arrives and for what was sent. The printed body spells every
  repetition out; here each is one definition at a symbolic number, and the printed body is shown to be these definitions.
-/
module

public import proofs.«01_k».proof.Proof.Gen.Kernel.Skeleton
public import proofs.«01_k».proof.Proof.Gen.Kernel.Frame

@[expose] public section

noncomputable section

namespace Cert.Kernel.AllToAll

open Idealize.ShloMosaic Idealize.SL.Sem
open Cert.Kernel Cert.Kernel.Gen

variable {F : FTy → Type} [FloatOps F]

/-- The programs of this kernel. -/
abbrev P (F : FTy → Type) (α : Type) := Prog (TpuEff nD τ sig (Elt F) Λ₀ .tc) α

/-- Run `f` on every entry of a list, in order. -/
def each {α : Type} (f : α → P F PUnit) : List α → P F PUnit
  | [] => pure ⟨⟩
  | a :: l => f a >>= fun _ => each f l

/-! ## The arrays and their pieces -/

/-- The device's rows of the input. -/
abbrev xM : Memref sig .tc .hbm S512x8192 .f32 := Memref.whole main_arg0
/-- The device's columns of the result. -/
abbrev oM : Memref sig .tc .hbm S8192x512 .bf16 := Memref.whole main_v1
/-- The two fetch buffers. -/
abbrev bM : Memref sig .tc .vmem S2x512x512 .f32 := Memref.whole cc0_scratch0
/-- The sixteen staged blocks. -/
abbrev sM : Memref sig .tc .vmem S16x512x512 .bf16 := Memref.whole cc0_scratch1
theorem hoM : oM.IsWhole := Memref.isWhole_whole _
theorem hsM : sM.IsWhole := Memref.isWhole_whole _

/-- The `r`-th peer's word in the printed offsets. -/
abbrev wd (r : Fin 15) : BitVec 32 := BitVec.ofNat 32 (1 + r.val)

/-- The device the `r`-th signal goes to. -/
def sigDev (d : Dev nD) : Fin 15 → Dev nD
  | 0 => ⟨k0_dev1 d, k0_dev1_lt d⟩ | 1 => ⟨k0_dev2 d, k0_dev2_lt d⟩ | 2 => ⟨k0_dev3 d, k0_dev3_lt d⟩
  | 3 => ⟨k0_dev4 d, k0_dev4_lt d⟩ | 4 => ⟨k0_dev5 d, k0_dev5_lt d⟩ | 5 => ⟨k0_dev6 d, k0_dev6_lt d⟩
  | 6 => ⟨k0_dev7 d, k0_dev7_lt d⟩ | 7 => ⟨k0_dev8 d, k0_dev8_lt d⟩ | 8 => ⟨k0_dev9 d, k0_dev9_lt d⟩
  | 9 => ⟨k0_dev10 d, k0_dev10_lt d⟩ | 10 => ⟨k0_dev11 d, k0_dev11_lt d⟩ | 11 => ⟨k0_dev12 d, k0_dev12_lt d⟩
  | 12 => ⟨k0_dev13 d, k0_dev13_lt d⟩ | 13 => ⟨k0_dev14 d, k0_dev14_lt d⟩ | 14 => ⟨k0_dev15 d, k0_dev15_lt d⟩

/-- The device the `r`-th block is sent to. -/
def sendDev (d : Dev nD) : Fin 15 → Dev nD
  | 0 => ⟨k0_dev16 d, k0_dev16_lt d⟩ | 1 => ⟨k0_dev17 d, k0_dev17_lt d⟩ | 2 => ⟨k0_dev18 d, k0_dev18_lt d⟩
  | 3 => ⟨k0_dev19 d, k0_dev19_lt d⟩ | 4 => ⟨k0_dev20 d, k0_dev20_lt d⟩ | 5 => ⟨k0_dev21 d, k0_dev21_lt d⟩
  | 6 => ⟨k0_dev22 d, k0_dev22_lt d⟩ | 7 => ⟨k0_dev23 d, k0_dev23_lt d⟩ | 8 => ⟨k0_dev24 d, k0_dev24_lt d⟩
  | 9 => ⟨k0_dev25 d, k0_dev25_lt d⟩ | 10 => ⟨k0_dev26 d, k0_dev26_lt d⟩ | 11 => ⟨k0_dev27 d, k0_dev27_lt d⟩
  | 12 => ⟨k0_dev28 d, k0_dev28_lt d⟩ | 13 => ⟨k0_dev29 d, k0_dev29_lt d⟩ | 14 => ⟨k0_dev30 d, k0_dev30_lt d⟩

/-- Which fetch buffer holds the `r`-th block. -/
abbrev par (r : Fin 15) : Fin 2 := ⟨r.val % 2, Nat.mod_lt _ Nat.two_pos⟩

theorem bOff_inb (b : Fin 2) : ∀ a, (![b.val, 0, 0] : Fin 3 → ℕ) a + S1x512x512.size a ≤ S2x512x512.size a := by
  revert b; decide
theorem bSem_inb (b : Fin 2) : ∀ a, (![b.val] : Fin 1 → ℕ) a + S1.size a ≤ S2.size a := by
  revert b; decide

/-- The rectangle of fetch buffer `b`. -/
abbrev bRect (b : Fin 2) : Rect S2x512x512 := Rect.unit (s := S2x512x512) ![b.val, 0, 0] S1x512x512.size (bOff_inb b)
/-- Fetch buffer `b`, as the fetches name it. -/
abbrev bufM (b : Fin 2) : Memref sig .tc .vmem S512x512 .f32 := (bM.slice (bRect b) (fun _ => rfl)).squeeze S512x512 squeezes_S1x512x512_S512x512
/-- Fetch buffer `b`'s semaphore. -/
abbrev bufSem (b : Fin 2) : DmaSem sig := ((cc0_scratch2.slice (Rect.unit (s := S2) ![b.val] S1.size (bSem_inb b))).squeeze S_ squeezes_S1_S_).sem
/-- The copy semaphore. -/
abbrev cpSem : DmaSem sig := cc0_scratch3.sem
/-- The input's columns that go to the `r`-th peer. -/
abbrev xBlk (d : Dev nD) (r : Fin 15) : Memref sig .tc .hbm S512x512 .f32 :=
  xM.slice (Rect.unit (s := S512x8192) (k0_off1 d (wd r)) S512x512.size (k0_off1_inb d r)) (fun _ => rfl)
/-- The input's columns that stay. -/
abbrev xOwn (d : Dev nD) : Memref sig .tc .hbm S512x512 .f32 :=
  xM.slice (Rect.unit (s := S512x8192) (k0_off7 d) S512x512.size (k0_off7_inb d)) (fun _ => rfl)
/-- The rectangle of the `r`-th peer's staged block, as the store names it. -/
abbrev stRect (d : Dev nD) (r : Fin 15) : Rect S16x512x512 :=
  Rect.unit (s := S16x512x512) (k0_off2 d (wd r)) S1x512x512.size (k0_off2_inb d r)
/-- The `r`-th peer's staged block, as the send names it. -/
abbrev stM (d : Dev nD) (r : Fin 15) : Memref sig .tc .vmem S512x512 .bf16 :=
  (sM.slice (Rect.unit (s := S16x512x512) (k0_off6 d (wd r)) S1x512x512.size (k0_off6_inb d r)) (fun _ => rfl)).squeeze S512x512 squeezes_S1x512x512_S512x512
/-- The rectangle of the device's own staged block. -/
abbrev stOwnRect (d : Dev nD) : Rect S16x512x512 :=
  Rect.unit (s := S16x512x512) (k0_off8 d) S1x512x512.size (k0_off8_inb d)
/-- The device's own staged block. -/
abbrev stOwn (d : Dev nD) : Memref sig .tc .vmem S512x512 .bf16 :=
  (sM.slice (Rect.unit (s := S16x512x512) (k0_off9 d) S1x512x512.size (k0_off9_inb d)) (fun _ => rfl)).squeeze S512x512 squeezes_S1x512x512_S512x512
/-- The result's rows that hold device `d`'s block. -/
abbrev oOwn (d : Dev nD) : Memref sig .tc .hbm S512x512 .bf16 :=
  oM.slice (Rect.unit (s := S8192x512) (k0_off5 d) S512x512.size (k0_off5_inb d)) (fun _ => rfl)
/-- The result's rows that hold the `r`-th peer's block. -/
abbrev oPeer (d : Dev nD) (r : Fin 15) : Memref sig .tc .hbm S512x512 .bf16 :=
  oM.slice (Rect.unit (s := S8192x512) (k0_off10 d (wd r)) S512x512.size (k0_off10_inb d r)) (fun _ => rfl)
/-- The semaphore a send to the `r`-th peer completes on at its sender. -/
abbrev sendSem (d : Dev nD) (r : Fin 15) : DmaSem sig :=
  ((cc0_scratch4.slice (Rect.unit (s := S16) (k0_off3 d (wd r)) S1.size (k0_off3_inb d r))).squeeze S_ squeezes_S1_S_).sem
/-- The semaphore device `d`'s sends complete on at their receivers. -/
abbrev landSem (d : Dev nD) : DmaSem sig :=
  ((cc0_scratch5.slice (Rect.unit (s := S16) (k0_off4 d) S1.size (k0_off4_inb d))).squeeze S_ squeezes_S1_S_).sem
/-- The semaphore the `r`-th peer's block arrives on. -/
abbrev recvSem (d : Dev nD) (r : Fin 15) : DmaSem sig :=
  ((cc0_scratch5.slice (Rect.unit (s := S16) (k0_off3 d (wd r)) S1.size (k0_off3_inb d r))).squeeze S_ squeezes_S1_S_).sem
/-- The runtime's barrier semaphore. -/
abbrev barSem : Sem sig := (SemArray.scalar (sig.barrier 0 rfl) : Sems sig S_).sem

/-! ## The steps -/

/-- A fetched block rounded to the staged format. -/
abbrev rounded (v : Vec F S1x512x512 .f32) : FVec F S1x512x512 .bf16 := k0_pay1 v

/-- Signal the `r`-th peer. -/
def signal (d : Dev nD) (r : Fin 15) : P F PUnit := semSignalWord (sigDev d r) barSem 1#32

/-- Start the fetch of the `r`-th block. -/
def fetch (d : Dev nD) (r : Fin 15) : P F PUnit :=
  Prog.lift (.enqueueDma (xBlk d r) (.here (bufM (par r))) (.dma (bufSem (par r))) (View.wordExact_bits rfl) ((View.wordExact_bits rfl).reshape _ _) ⟨Or.inl rfl, trivial⟩)

/-- Wait for the fetch of the `r`-th block. -/
def fetched (d : Dev nD) (r : Fin 15) : P F PUnit :=
  Prog.lift (.waitDma2 (bufSem (par r)) (xBlk d r) (bufM (par r)) (View.wordExact_bits rfl) ((View.wordExact_bits rfl).reshape _ _))

/-- Round the `r`-th block into its staging slot. -/
def stage (d : Dev nD) (r : Fin 15) : P F PUnit := do
  let v : Vec F S1x512x512 .f32 ← Prog.lift (.load bM (bRect (par r)).toLoadRect (View.loadsAt_vmem h_S1x512x512))
  let _ : Vec F S1x512x512 .bf16 ← Prog.lift (.load sM (stRect d r).toLoadRect (View.loadsAt_vmem h_S1x512x512))
  Prog.lift (.store sM (stRect d r) (rounded v) Finset.univ (View.stores_vmem h_S1x512x512 (hsM.storeExact_slice rfl _ (k0_off2_packedbf16 d r)) (fun _ => rfl)) (.inl rfl))

/-- Send the `r`-th staged block to the `r`-th peer. -/
def send (d : Dev nD) (r : Fin 15) : P F PUnit :=
  Prog.lift (.enqueueDma (stM d r) (.remote (Dev.tc (sendDev d r)) (oOwn d) (.dma (sendSem d r))) (.dma (landSem d))
    ((hsM.wordExact_slice rfl _ (k0_off6_wordsbf16 d r)).reshape _ _) (hoM.wordExact_slice rfl _ (k0_off5_wordsbf16 d)) ⟨⟨rfl, Or.inl rfl⟩, trivial⟩)

/-- One block but the last: wait for it, start the next fetch, round it, send it. -/
def trip (d : Dev nD) (r : Fin 14) : P F PUnit := do
  fetched d r.castSucc
  fetch d r.succ
  stage d r.castSucc
  send d r.castSucc

/-- The last peer's block: nothing more to fetch. -/
def lastTrip (d : Dev nD) : P F PUnit := do
  fetched d 14
  stage d 14
  send d 14

/-- The device's own block: fetched, rounded, and its copy into the result started. -/
def ownTrip (d : Dev nD) : P F PUnit := do
  Prog.lift (.enqueueDma (xOwn d) (.here (bufM 0)) (.dma (bufSem 0)) (View.wordExact_bits rfl) ((View.wordExact_bits rfl).reshape _ _) ⟨Or.inl rfl, trivial⟩)
  Prog.lift (.waitDma2 (bufSem 0) (xOwn d) (bufM 0) (View.wordExact_bits rfl) ((View.wordExact_bits rfl).reshape _ _))
  let v : Vec F S1x512x512 .f32 ← Prog.lift (.load bM (bRect 0).toLoadRect (View.loadsAt_vmem h_S1x512x512))
  let _ : Vec F S1x512x512 .bf16 ← Prog.lift (.load sM (stOwnRect d).toLoadRect (View.loadsAt_vmem h_S1x512x512))
  Prog.lift (.store sM (stOwnRect d) (rounded v) Finset.univ (View.stores_vmem h_S1x512x512 (hsM.storeExact_slice rfl _ (k0_off8_packedbf16 d)) (fun _ => rfl)) (.inl rfl))
  Prog.lift (.enqueueDma (stOwn d) (.here (oOwn d)) (.dma cpSem) ((hsM.wordExact_slice rfl _ (k0_off9_wordsbf16 d)).reshape _ _) (hoM.wordExact_slice rfl _ (k0_off5_wordsbf16 d)) ⟨Or.inl rfl, trivial⟩)

/-- Wait for the `r`-th peer's block to arrive. -/
def arrived (d : Dev nD) (r : Fin 15) : P F PUnit :=
  Prog.lift (.waitDma2 (recvSem d r) (stM d r) (oPeer d r) ((hsM.wordExact_slice rfl _ (k0_off6_wordsbf16 d r)).reshape _ _) (hoM.wordExact_slice rfl _ (k0_off10_wordsbf16 d r)))

/-- Wait for the own block's copy. -/
def copied (d : Dev nD) : P F PUnit :=
  Prog.lift (.waitDma2 cpSem (stOwn d) (oOwn d) ((hsM.wordExact_slice rfl _ (k0_off9_wordsbf16 d)).reshape _ _) (hoM.wordExact_slice rfl _ (k0_off5_wordsbf16 d)))

/-- Wait for the `r`-th send to have read its staged block. -/
def sent (d : Dev nD) (r : Fin 15) : P F PUnit :=
  Prog.lift (.waitDma2 (sendSem d r) (oOwn d) (stM d r) (hoM.wordExact_slice rfl _ (k0_off5_wordsbf16 d)) ((hsM.wordExact_slice rfl _ (k0_off6_wordsbf16 d r)).reshape _ _))

/-- The numbers of the fifteen peers, and of all but the last. -/
def peers : List (Fin 15) := [0, 1, 2, 3, 4, 5, 6, 7, 8, 9, 10, 11, 12, 13, 14]
def trips : List (Fin 14) := [0, 1, 2, 3, 4, 5, 6, 7, 8, 9, 10, 11, 12, 13]

/-- What device `d` runs. -/
def body (d : Dev nD) : P F PUnit := do
  each (signal d) peers
  semWaitWord barSem 15#32
  fetch d 0
  each (trip d) trips
  lastTrip d
  ownTrip d
  each (arrived d) peers
  copied d
  each (sent d) peers

set_option maxRecDepth 65536 in
set_option maxHeartbeats 4000000 in
/-- The printed body reads its device's number and runs `body` at it. -/
theorem body_eq (t : Fin grid0.N) : bodyAt0 (F := F) t = (Prog.lift .deviceId >>= fun d : Dev nD => body d) := by
  unfold bodyAt0
  rw [cc0_body_eq_skeleton]
  simp only [cc0_body_skel, k0_part1_eq_skeleton, k0_part1_skel, k0_part2_eq_skeleton, k0_part2_skel, k0_part3_eq_skeleton,
    k0_part3_skel, k0_part4_eq_skeleton, k0_part4_skel, k0_part5_eq_skeleton, k0_part5_skel, k0_part6_eq_skeleton,
    k0_part6_skel, k0_part7_eq_skeleton, k0_part7_skel, k0_part8_eq_skeleton, k0_part8_skel, k0_part9_eq_skeleton,
    k0_part9_skel, k0_part10_eq_skeleton, k0_part10_skel, k0_part11_eq_skeleton, k0_part11_skel, k0_part12_eq_skeleton,
    k0_part12_skel, k0_part13_eq_skeleton, k0_part13_skel, k0_part14_eq_skeleton, k0_part14_skel, k0_part15_eq_skeleton,
    k0_part15_skel, k0_part16_eq_skeleton, k0_part16_skel, k0_part17_eq_skeleton, k0_part17_skel, k0_part18_eq_skeleton,
    k0_part18_skel, k0_part19_eq_skeleton, k0_part19_skel, k0_part20_eq_skeleton, k0_part20_skel, k0_part21_eq_skeleton,
    k0_part21_skel, k0_part22_eq_skeleton, k0_part22_skel, k0_part23_eq_skeleton, k0_part23_skel, k0_part24_eq_skeleton,
    k0_part24_skel, k0_part25_eq_skeleton, k0_part25_skel, k0_part26_eq_skeleton, k0_part26_skel, k0_part27_eq_skeleton,
    k0_part27_skel, k0_part28_eq_skeleton, k0_part28_skel, k0_part29_eq_skeleton, k0_part29_skel, k0_part30_eq_skeleton,
    k0_part30_skel, k0_part31_eq_skeleton, k0_part31_skel, k0_part32_eq_skeleton, k0_part32_skel, k0_part33_eq_skeleton,
    k0_part33_skel, k0_part34_eq_skeleton, k0_part34_skel, k0_part35_eq_skeleton, k0_part35_skel, k0_part36_eq_skeleton,
    k0_part36_skel, k0_part37_eq_skeleton, k0_part37_skel, k0_part38_eq_skeleton, k0_part38_skel, k0_part39_eq_skeleton,
    k0_part39_skel, k0_part40_eq_skeleton, k0_part40_skel, k0_part41_eq_skeleton, k0_part41_skel, bind_assoc, pure_bind]
  simp only [body, each, peers, trips, trip, lastTrip, ownTrip, signal, fetch, fetched, stage, send, arrived, copied, sent, bind_assoc, pure_bind]
  rfl

end Cert.Kernel.AllToAll

end
-- ==== Proof.Blocks.lean ====
/-
  The blocks of the four arrays: which elements each piece names, by coordinates alone, and what a copy or a store between
  two pieces leaves there. The columns of `x` and the rows of the result come in sixteen blocks of 512, one per device; the
  staging array in sixteen slots; the fetch buffer in two halves.
-/
module

public import proofs.«01_k».proof.Proof.Steps
public import Idealize.ShloMosaic.Lib.ValueLayout
public import Idealize.ShloMosaic.Lib.Pipeline.Value

@[expose] public section

noncomputable section

namespace Cert.Kernel.AllToAll

open Idealize.ShloMosaic Idealize.ShloMosaic.ValueIdx Idealize.ShloMosaic.TcCoe Idealize.SL.Sem
open Cert.Kernel Cert.Kernel.Gen

variable {F : FTy → Type} [FloatOps F]

/-! ## Peers -/

/-- The `r`-th peer of device `c`: the peers in ring order, starting at the next device. -/
def peer (c : Dev nD) (r : Fin 15) : Dev nD := ⟨(c.val + (r.val + 1)) % 16, Nat.mod_lt _ (by decide)⟩

theorem peer_ne (c : Dev nD) (r : Fin 15) : peer c r ≠ c := by revert c r; decide
theorem peer_inj (c : Dev nD) : Function.Injective (peer c) := by revert c; decide
theorem eq_peer (c d : Dev nD) (h : d ≠ c) : ∃ r, peer c r = d := by revert c d; decide

theorem sigDev_eq (c : Dev nD) (r : Fin 15) : sigDev c r = peer c r := by revert c r; decide +kernel
theorem sendDev_eq (c : Dev nD) (r : Fin 15) : sendDev c r = peer c r := by revert c r; decide +kernel

theorem off1_eq (c : Dev nD) (r : Fin 15) : k0_off1 c (wd r) = ![0, 512 * (peer c r).val] := by revert c r; decide +kernel
theorem off2_eq (c : Dev nD) (r : Fin 15) : k0_off2 c (wd r) = ![(peer c r).val, 0, 0] := by revert c r; decide +kernel
theorem off3_eq (c : Dev nD) (r : Fin 15) : k0_off3 c (wd r) = ![(peer c r).val] := by revert c r; decide +kernel
theorem off6_eq (c : Dev nD) (r : Fin 15) : k0_off6 c (wd r) = ![(peer c r).val, 0, 0] := by revert c r; decide +kernel
theorem off10_eq (c : Dev nD) (r : Fin 15) : k0_off10 c (wd r) = ![512 * (peer c r).val, 0] := by revert c r; decide +kernel
theorem off4_eq (c : Dev nD) : k0_off4 c = ![c.val] := by revert c; decide +kernel
theorem off5_eq (c : Dev nD) : k0_off5 c = ![512 * c.val, 0] := by revert c; decide +kernel
theorem off7_eq (c : Dev nD) : k0_off7 c = ![0, 512 * c.val] := by revert c; decide +kernel
theorem off8_eq (c : Dev nD) : k0_off8 c = ![c.val, 0, 0] := by revert c; decide +kernel
theorem off9_eq (c : Dev nD) : k0_off9 c = ![c.val, 0, 0] := by revert c; decide +kernel

/-! ## The pieces, by coordinates -/

/-- Column block `j` of the input. -/
def xCols (j : Fin 16) : Finset S512x8192.Idx := Finset.univ.filter fun i => (i 1).val / 512 = j.val
/-- Row block `j` of the result. -/
def oRows (j : Fin 16) : Finset S8192x512.Idx := Finset.univ.filter fun i => (i 0).val / 512 = j.val
/-- Slot `j` of the staging array. -/
def slot (j : Fin 16) : Finset S16x512x512.Idx := Finset.univ.filter fun i => (i 0).val = j.val
/-- Half `b` of the fetch buffer. -/
def half (b : Fin 2) : Finset S2x512x512.Idx := Finset.univ.filter fun i => (i 0).val = b.val

/-- A unit-stride rectangle's elements lie between its offsets and their ends. -/
theorem mem_unit {s : Shape} (off size : Fin s.rank → ℕ) (h : ∀ a, off a + size a ≤ s.size a) (i : s.Idx) :
    i ∈ (Rect.unit off size h).set ↔ ∀ a, off a ≤ (i a).val ∧ (i a).val < off a + size a := by
  refine (LoadRect.mem_set _).trans (forall_congr' fun a => ⟨?_, fun ⟨h1, h2⟩ => ?_⟩)
  · rintro ⟨j, hj, e⟩
    have e' : (i a).val = off a + 1 * j := e
    have hj' : j < size a := hj
    omega
  · refine ⟨(i a).val - off a, ?_, ?_⟩
    · show (i a).val - off a < size a
      omega
    · show (i a).val = off a + 1 * ((i a).val - off a)
      omega

theorem forall_fin_three {p : Fin 3 → Prop} : (∀ a, p a) ↔ p 0 ∧ p 1 ∧ p 2 := by
  rw [Fin.forall_fin_succ, Fin.forall_fin_two]; rfl

section Sets
variable (j : Fin 16)

/-- A block of columns of the input at offsets `off`. -/
abbrev xAt (off : Fin 2 → ℕ) (h : ∀ a, off a + S512x512.size a ≤ S512x8192.size a) : Memref sig .tc .hbm S512x512 .f32 :=
  xM.slice (Rect.unit (s := S512x8192) off S512x512.size h) (fun _ => rfl)
/-- A block of rows of the result at offsets `off`. -/
abbrev oAt (off : Fin 2 → ℕ) (h : ∀ a, off a + S512x512.size a ≤ S8192x512.size a) : Memref sig .tc .hbm S512x512 .bf16 :=
  oM.slice (Rect.unit (s := S8192x512) off S512x512.size h) (fun _ => rfl)
/-- A slot of the staging array at offsets `off`. -/
abbrev sRect (off : Fin 3 → ℕ) (h : ∀ a, off a + S1x512x512.size a ≤ S16x512x512.size a) : Rect S16x512x512 :=
  Rect.unit (s := S16x512x512) off S1x512x512.size h
/-- That slot as a square. -/
abbrev sAt (off : Fin 3 → ℕ) (h : ∀ a, off a + S1x512x512.size a ≤ S16x512x512.size a) : Memref sig .tc .vmem S512x512 .bf16 :=
  (sM.slice (sRect off h) (fun _ => rfl)).squeeze S512x512 squeezes_S1x512x512_S512x512

theorem xAt_set {off : Fin 2 → ℕ} (e : off = ![0, 512 * j.val]) (h) : (xAt off h).view.set = xCols j := by
  subst e
  refine (View.set_slice_whole main_arg0 _).trans ?_
  ext i
  have h0 := (i 0).isLt; have h1 := (i 1).isLt
  refine (mem_unit _ _ _ i).trans ?_
  simp only [xCols, Finset.mem_filter, Finset.mem_univ, true_and]
  refine Fin.forall_fin_two.trans ?_
  show (0 ≤ (i 0).val ∧ (i 0).val < 0 + 512) ∧ (512 * j.val ≤ (i 1).val ∧ (i 1).val < 512 * j.val + 512) ↔ _
  have h0' : (i 0).val < 512 := h0
  omega

theorem oAt_set {off : Fin 2 → ℕ} (e : off = ![512 * j.val, 0]) (h) : (oAt off h).view.set = oRows j := by
  subst e
  refine (View.set_slice_whole main_v1 _).trans ?_
  ext i
  have h1 := (i 1).isLt
  refine (mem_unit _ _ _ i).trans ?_
  simp only [oRows, Finset.mem_filter, Finset.mem_univ, true_and]
  refine Fin.forall_fin_two.trans ?_
  show (512 * j.val ≤ (i 0).val ∧ (i 0).val < 512 * j.val + 512) ∧ (0 ≤ (i 1).val ∧ (i 1).val < 0 + 512) ↔ _
  have h1' : (i 1).val < 512 := h1
  omega

theorem sRect_set {off : Fin 3 → ℕ} (e : off = ![j.val, 0, 0]) (h) : (sM.access (sRect off h)).set = slot j := by
  subst e
  refine (View.set_slice_whole cc0_scratch1 _).trans ?_
  ext i
  have h1 := (i 1).isLt; have h2 := (i 2).isLt
  refine (mem_unit _ _ _ i).trans ?_
  simp only [slot, Finset.mem_filter, Finset.mem_univ, true_and]
  refine forall_fin_three.trans ?_
  show (j.val ≤ (i 0).val ∧ (i 0).val < j.val + 1) ∧ (0 ≤ (i 1).val ∧ (i 1).val < 0 + 512) ∧ (0 ≤ (i 2).val ∧ (i 2).val < 0 + 512) ↔ _
  have h1' : (i 1).val < 512 := h1
  have h2' : (i 2).val < 512 := h2
  omega

theorem sAt_set {off : Fin 3 → ℕ} (e : off = ![j.val, 0, 0]) (h) : (sAt off h).view.set = slot j :=
  (View.set_reshape _ _).trans (sRect_set j e h)

theorem bRect_set (b : Fin 2) : (bM.access (bRect b)).set = half b := by
  refine (View.set_slice_whole cc0_scratch0 _).trans ?_
  ext i
  have h1 := (i 1).isLt; have h2 := (i 2).isLt
  refine (mem_unit _ _ _ i).trans ?_
  simp only [half, Finset.mem_filter, Finset.mem_univ, true_and]
  refine forall_fin_three.trans ?_
  show (b.val ≤ (i 0).val ∧ (i 0).val < b.val + 1) ∧ (0 ≤ (i 1).val ∧ (i 1).val < 0 + 512) ∧ (0 ≤ (i 2).val ∧ (i 2).val < 0 + 512) ↔ _
  have h1' : (i 1).val < 512 := h1
  have h2' : (i 2).val < 512 := h2
  omega

theorem bufM_set (b : Fin 2) : (bufM b).view.set = half b :=
  (View.set_reshape _ _).trans (bRect_set b)

end Sets

/-! ## The pieces of each array are disjoint and cover it -/

theorem xCols_disj (a b : Fin 16) (h : a ≠ b) : Disjoint (xCols a) (xCols b) := by
  rw [Finset.disjoint_left]; intro i hi hj
  simp only [xCols, Finset.mem_filter, Finset.mem_univ, true_and] at hi hj
  exact h (Fin.ext (hi.symm.trans hj))
theorem oRows_disj (a b : Fin 16) (h : a ≠ b) : Disjoint (oRows a) (oRows b) := by
  rw [Finset.disjoint_left]; intro i hi hj
  simp only [oRows, Finset.mem_filter, Finset.mem_univ, true_and] at hi hj
  exact h (Fin.ext (hi.symm.trans hj))
theorem slot_disj (a b : Fin 16) (h : a ≠ b) : Disjoint (slot a) (slot b) := by
  rw [Finset.disjoint_left]; intro i hi hj
  simp only [slot, Finset.mem_filter, Finset.mem_univ, true_and] at hi hj
  exact h (Fin.ext (hi.symm.trans hj))
theorem half_disj (a b : Fin 2) (h : a ≠ b) : Disjoint (half a) (half b) := by
  rw [Finset.disjoint_left]; intro i hi hj
  simp only [half, Finset.mem_filter, Finset.mem_univ, true_and] at hi hj
  exact h (Fin.ext (hi.symm.trans hj))

theorem xCols_all (i : S512x8192.Idx) : ∃ j, i ∈ xCols j := by
  have h : (i 1).val < 8192 := (i 1).isLt
  exact ⟨⟨(i 1).val / 512, by omega⟩, by simp only [xCols, Finset.mem_filter, Finset.mem_univ, true_and]⟩
theorem oRows_all (i : S8192x512.Idx) : ∃ j, i ∈ oRows j := by
  have h : (i 0).val < 8192 := (i 0).isLt
  exact ⟨⟨(i 0).val / 512, by omega⟩, by simp only [oRows, Finset.mem_filter, Finset.mem_univ, true_and]⟩
theorem slot_all (i : S16x512x512.Idx) : ∃ j, i ∈ slot j := ⟨i 0, by simp only [slot, Finset.mem_filter, Finset.mem_univ, true_and]⟩
theorem half_all (i : S2x512x512.Idx) : ∃ j, i ∈ half j := ⟨i 0, by simp only [half, Finset.mem_filter, Finset.mem_univ, true_and]⟩

/-! ## Contents -/

/-- One number rounded to the staged format. -/
abbrev rnd (a : F .f32) : F .bf16 := FloatOps.truncf .bf16 bitsLt_bf16_f32 a

/-- What the fetch buffer holds of block `j` of an input `X`, in either half. -/
def fetchedOf (X : S512x8192.Idx → F .f32) (j : Fin 16) : S2x512x512.Idx → F .f32 :=
  fun i => X (ix2 (i 1) (⟨512 * j.val + (i 2).val, by have h : (i 2).val < 512 := (i 2).isLt; omega⟩ : Fin 8192))

/-- What the staging array of a device with input `X` comes to hold: slot `j` its column block `j`, rounded. -/
def stagedOf (X : S512x8192.Idx → F .f32) : S16x512x512.Idx → F .bf16 :=
  fun i => rnd (X (ix2 (i 1) (⟨512 * (i 0).val + (i 2).val, by
    have h : (i 2).val < 512 := (i 2).isLt; have h' : (i 0).val < 16 := (i 0).isLt; omega⟩ : Fin 8192)))

/-- What device `c`'s result comes to hold, the inputs being `X`: row block `j` the column block `c` of device `j`'s input, rounded. -/
def resultOf (X : Fin 16 → S512x8192.Idx → F .f32) (c : Fin 16) : S8192x512.Idx → F .bf16 :=
  fun i => rnd (X (⟨(i 0).val / 512, by have h : (i 0).val < 8192 := (i 0).isLt; omega⟩ : Fin 16)
    (ix2 (⟨(i 0).val % 512, Nat.mod_lt _ (by decide)⟩ : Fin 512) (⟨512 * c.val + (i 1).val, by
      have h : (i 1).val < 512 := (i 1).isLt; omega⟩ : Fin 8192)))

theorem rounded_apply (v : Vec F S1x512x512 .f32) (a b : Fin 512) :
    rounded v (ix3 (0 : Fin 1) a b) = rnd (v (ix3 (0 : Fin 1) a b)) := by
  show shapeCast S1x512x512 (shapeCast S1x512x512 (truncf .bf16 (shapeCast S512x512 v shapeCasts_S1x512x512_S512x512) bitsLt_bf16_f32)
    shapeCasts_S512x512_S1x512x512) shapeCasts_S1x512x512_S1x512x512 (ix3 (0 : Fin 1) a b) = _
  rw [shapeCast_apply _ _ _ (ix3 (0 : Fin 1) a b) rfl, shapeCast_ab_1ab_apply]
  show FloatOps.truncf .bf16 bitsLt_bf16_f32 (shapeCast S512x512 v shapeCasts_S1x512x512_S512x512 (ix2 a b)) = _
  rw [shapeCast_1ab_ab_apply]

/-! ## What each copy and store leaves -/

theorem idx2_ext {n m : ℕ} (i j : (⟨2, ![n, m]⟩ : Shape).Idx) (h0 : (i 0).val = (j 0).val) (h1 : (i 1).val = (j 1).val) : i = j :=
  funext (Fin.forall_fin_two.mpr ⟨Fin.ext h0, Fin.ext h1⟩)
theorem idx3_ext {n m l : ℕ} (i j : (⟨3, ![n, m, l]⟩ : Shape).Idx) (h0 : (i 0).val = (j 0).val) (h1 : (i 1).val = (j 1).val)
    (h2 : (i 2).val = (j 2).val) : i = j :=
  funext fun k => by fin_cases k <;> [exact Fin.ext h0; exact Fin.ext h1; exact Fin.ext h2]

theorem xAt_emb (j : Fin 16) {off : Fin 2 → ℕ} (e : off = ![0, 512 * j.val]) (h) (a b : Fin 512) :
    (xAt off h).view.emb (ix2 a b) = (ix2 a (⟨512 * j.val + b.val, by omega⟩ : Fin 8192) : S512x8192.Idx) := by
  subst e
  refine idx2_ext _ _ (by show 0 + 1 * a.val = a.val; omega) (by show 512 * j.val + 1 * b.val = 512 * j.val + b.val; omega)

theorem oAt_emb (j : Fin 16) {off : Fin 2 → ℕ} (e : off = ![512 * j.val, 0]) (h) (a b : Fin 512) :
    (oAt off h).view.emb (ix2 a b) = (ix2 (⟨512 * j.val + a.val, by omega⟩ : Fin 8192) b : S8192x512.Idx) := by
  subst e
  refine idx2_ext _ _ (by show 512 * j.val + 1 * a.val = 512 * j.val + a.val; omega) (by show 0 + 1 * b.val = b.val; omega)

theorem sRect_emb (j : Fin 16) {off : Fin 3 → ℕ} (e : off = ![j.val, 0, 0]) (h) (a b : Fin 512) :
    (sM.access (sRect off h)).emb (ix3 (0 : Fin 1) a b) = (ix3 j a b : S16x512x512.Idx) := by
  subst e
  refine idx3_ext _ _ (by show j.val + 1 * 0 = j.val; omega) (by show 0 + 1 * a.val = a.val; omega) (by show 0 + 1 * b.val = b.val; omega)

theorem sAt_emb (j : Fin 16) {off : Fin 3 → ℕ} (e : off = ![j.val, 0, 0]) (h) (a b : Fin 512) :
    (sAt off h).view.emb (ix2 a b) = (ix3 j a b : S16x512x512.Idx) := by
  refine Eq.trans ?_ (sRect_emb j e h a b)
  show (sM.access (sRect off h)).emb (Shape.reshapeEquiv _ (ix2 a b)) = _
  exact congrArg _ (reshapeEquiv_ix2_1ab _ a b)

theorem bRect_emb (b : Fin 2) (x y : Fin 512) : (bM.access (bRect b)).emb (ix3 (0 : Fin 1) x y) = (ix3 b x y : S2x512x512.Idx) := by
  refine idx3_ext _ _ (by show b.val + 1 * 0 = b.val; omega) (by show 0 + 1 * x.val = x.val; omega) (by show 0 + 1 * y.val = y.val; omega)

theorem bufM_emb (b : Fin 2) (x y : Fin 512) : (bufM b).view.emb (ix2 x y) = (ix3 b x y : S2x512x512.Idx) := by
  refine Eq.trans ?_ (bRect_emb b x y)
  show (bM.access (bRect b)).emb (Shape.reshapeEquiv _ (ix2 x y)) = _
  exact congrArg _ (reshapeEquiv_ix2_1ab _ x y)

/-- A fetch of column block `j` leaves it in the half it is fetched into. -/
theorem fetch_write (X : S512x8192.Idx → F .f32) (j : Fin 16) (b : Fin 2) {off : Fin 2 → ℕ} (e : off = ![0, 512 * j.val]) (h)
    (f : S2x512x512.Idx → F .f32) (i : S2x512x512.Idx) (hi : i ∈ half b) :
    (bufM b).view.write (Elt F) f ((xAt off h).view.read (Elt F) X) Finset.univ i = fetchedOf X j i := by
  rw [← bufM_set b] at hi
  obtain ⟨y, rfl⟩ := View.exists_emb_of_mem_set _ hi
  rw [View.write_emb_of_mem _ _ (Finset.mem_univ y)]
  obtain ⟨x, z, rfl⟩ : ∃ x z, y = ix2 x z := ⟨y 0, y 1, (eq_ix2 y)⟩
  show X ((xAt off h).view.emb (ix2 x z)) = fetchedOf X j ((bufM b).view.emb (ix2 x z))
  rw [xAt_emb j e h, bufM_emb]
  rfl

/-- The staging store of a fetched block leaves the device's slot. -/
theorem stage_write (X : S512x8192.Idx → F .f32) (j : Fin 16) (b : Fin 2) {off : Fin 3 → ℕ} (e : off = ![j.val, 0, 0]) (h)
    (f : S16x512x512.Idx → F .bf16) (i : S16x512x512.Idx) (hi : i ∈ slot j) :
    (sM.access (sRect off h)).write (Elt F) f (rounded ((bM.access (bRect b)).read (Elt F) (fetchedOf X j))) Finset.univ i = stagedOf X i := by
  rw [← sRect_set j e h] at hi
  obtain ⟨y, rfl⟩ := View.exists_emb_of_mem_set _ hi
  rw [View.write_emb_of_mem _ _ (Finset.mem_univ y)]
  obtain ⟨x, z, rfl⟩ : ∃ x z, y = ix3 (0 : Fin 1) x z :=
    ⟨y 1, y 2, idx3_ext (n := 1) (m := 512) (l := 512) _ _ (by have h : (y 0).val < 1 := (y 0).isLt; show (y 0).val = 0; omega) rfl rfl⟩
  show rounded ((bM.access (bRect b)).read (Elt F) (fetchedOf X j)) (ix3 (0 : Fin 1) x z) = stagedOf X ((sM.access (sRect off h)).emb (ix3 (0 : Fin 1) x z))
  rw [rounded_apply, sRect_emb j e h]
  show rnd (fetchedOf X j ((bM.access (bRect b)).emb (ix3 (0 : Fin 1) x z))) = _
  rw [bRect_emb]
  rfl

/-- A copy of device `k`'s slot `c` into row block `k` of device `c`'s result leaves its final contents there. -/
theorem land_write (X : Fin 16 → S512x8192.Idx → F .f32) (k c : Fin 16) {off : Fin 2 → ℕ} (e : off = ![512 * k.val, 0]) (h)
    {off' : Fin 3 → ℕ} (e' : off' = ![c.val, 0, 0]) (h')
    (f : S8192x512.Idx → F .bf16) (i : S8192x512.Idx) (hi : i ∈ oRows k) :
    (oAt off h).view.write (Elt F) f ((sAt off' h').view.read (Elt F) (stagedOf (X k))) Finset.univ i = resultOf X c i := by
  rw [← oAt_set k e h] at hi
  obtain ⟨y, rfl⟩ := View.exists_emb_of_mem_set _ hi
  rw [View.write_emb_of_mem _ _ (Finset.mem_univ y)]
  obtain ⟨x, z, rfl⟩ : ∃ x z, y = ix2 x z := ⟨y 0, y 1, (eq_ix2 y)⟩
  show stagedOf (X k) ((sAt off' h').view.emb (ix2 x z)) = resultOf X c ((oAt off h).view.emb (ix2 x z))
  rw [oAt_emb k e h, sAt_emb c e' h']
  have hx : (⟨(512 * k.val + x.val) / 512, by omega⟩ : Fin 16) = k := Fin.ext (by show (512 * k.val + x.val) / 512 = k.val; omega)
  have hx' : (⟨(512 * k.val + x.val) % 512, Nat.mod_lt _ (by decide)⟩ : Fin 512) = x := Fin.ext (by show (512 * k.val + x.val) % 512 = x.val; omega)
  show rnd (X k (ix2 x (⟨512 * c.val + z.val, _⟩ : Fin 8192)))
    = rnd (X (⟨(512 * k.val + x.val) / 512, _⟩ : Fin 16) (ix2 (⟨(512 * k.val + x.val) % 512, _⟩ : Fin 512) (⟨512 * c.val + z.val, _⟩ : Fin 8192)))
  rw [hx, hx']

end Cert.Kernel.AllToAll

end
-- ==== Proof.Protocol.lean ====
/-
  The protocol between the sixteen devices. Each device has a barrier cell, and for every other device a send cell and a
  receive cell. Peer `d` signals device `c`'s barrier once, and with the signal lets `c` write row block `c` of `d`'s result.
  Device `c` sends slot `p` of its staging array into row block `c` of device `p`'s result: the transfer completes on `c`'s
  send cell `p`, which gives the slot back to `c`, and on `p`'s receive cell `c`, which gives `p` the row block with its final
  contents. Every cell has one round; a duty is named by the peer it concerns. A device waits on its barrier while it owes
  only transfers, and on everything else while it owes only transfers or nothing: barrier cells sit below receive cells.
-/
module

public import proofs.«01_k».proof.Proof.Blocks
public import proofs.«01_k».proof.Proof.Gen.Kernel.Launch
public import Idealize.ShloMosaic.Lib.Rounds
public import Idealize.ShloMosaic.Lib.Transfers
public import Idealize.ShloMosaic.Lib.Ring
public import Idealize.ShloMosaic.Lib.Pipeline.Launch
public import Idealize.ShloMosaic.Lib.Pipeline.Kit
public import Idealize.ShloMosaic.Lib.Tactic

@[expose] public section

noncomputable section

namespace Cert.Kernel.AllToAll

open Cert.Kernel Cert.Kernel.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## The resources: the launch's own, the rounds', and the local transfers' counters -/

abbrev UB : Type := URounds (GSem nD τ sig) (Dev nD)
abbrev UU : Type := UR sig nD τ × (UB × Counters)

local notation "𝕄" => MT nD τ sig Unit (Elt F) ℕ UU ℕ

abbrev EP : Emb (UR sig nD τ) (MT nD τ sig Unit (Elt F) ℕ UU ℕ) := embL
def ER : Emb UB (MT nD τ sig Unit (Elt F) ℕ UU ℕ) :=
  ((Emb.inl : Emb UB (UB × Counters)).trans (Emb.inr : Emb (UB × Counters) UU)).trans
    (uEmb (nD := nD) (τ := τ) (sig := sig) (Ix := Unit) (Val := Elt F) (Name := ℕ) (U := UU) (Lvl := ℕ)).toEmb
instance ER_landsIn : (ER : Emb UB 𝕄).LandsIn (upEmb : UEmb _ 𝕄) := by unfold ER; infer_instance
abbrev EC : UEmb Counters (MT nD τ sig Unit (Elt F) ℕ UU ℕ) := countersEmb (U := UU)

abbrev 𝒱₀ : Variants := Variants.none

/-! ## The cells -/

/-- The semaphore a send to device `j` completes on at its sender. -/
def semS (j : Fin 16) : DmaSem sig := (⟨3 + j.val, by have := j.isLt; omega⟩ : Fin 35)
/-- The semaphore device `j`'s sends complete on at their receivers. -/
def semR (j : Fin 16) : DmaSem sig := (⟨19 + j.val, by have := j.isLt; omega⟩ : Fin 35)

theorem sendSem_eq (c : Dev nD) (r : Fin 15) : sendSem c r = semS (peer c r) := by revert c r; decide +kernel
theorem recvSem_eq (c : Dev nD) (r : Fin 15) : recvSem c r = semR (peer c r) := by revert c r; decide +kernel
theorem landSem_eq (c : Dev nD) : landSem c = semR c := by revert c; decide +kernel

abbrev barCell (c : Dev nD) : GSem nD τ sig := ((c : Thread nD τ), .reg barSem)
abbrev sendCell (c j : Dev nD) : GSem nD τ sig := ((c : Thread nD τ), .dma (semS j))
abbrev recvCell (c j : Dev nD) : GSem nD τ sig := ((c : Thread nD τ), .dma (semR j))

theorem semS_inj : Function.Injective semS := fun a b h => by
  have := congrArg (fun q : Fin 35 => q.val) h; exact Fin.ext (by simp only [semS] at this; omega)
theorem semR_inj : Function.Injective semR := fun a b h => by
  have := congrArg (fun q : Fin 35 => q.val) h; exact Fin.ext (by simp only [semR] at this; omega)
theorem semS_ne_semR (a b : Fin 16) : semS a ≠ semR b := fun h => by
  have := congrArg (fun q : Fin 35 => q.val) h; have := a.isLt; simp only [semS, semR] at *; omega

/-- A block's credit. -/
def N : ℕ := (stOwn 0).view.dmaCredit
theorem N_pos : 0 < N := View.dmaCredit_pos _ (by decide)
theorem credit_s (off : Fin 3 → ℕ) (h) : (sAt off h).view.dmaCredit = N := rfl
theorem credit_o (off : Fin 2 → ℕ) (h) : (oAt off h).view.dmaCredit = N := rfl

/-! ## Ownership of the pieces -/

variable (X : Fin 16 → S512x8192.Idx → F .f32)

/-- Device `c` holds row block `j` of its result, at contents `f`. -/
def rows (c j : Dev nD) (f : S8192x512.Idx → F .bf16) : sProp 𝕄 :=
  ((c : Thread nD τ).loc main_v1) ↦[oRows j]{fullShare} f
/-- Device `c` holds slot `j` of its staging array, at contents `f`. -/
def slotAt (c j : Dev nD) (f : S16x512x512.Idx → F .bf16) : sProp 𝕄 :=
  ((c : Thread nD τ).loc cc0_scratch1) ↦[slot j]{fullShare} f
/-- Device `c` holds column block `j` of its input. -/
def cols (c j : Dev nD) : sProp 𝕄 :=
  ((c : Thread nD τ).loc main_arg0) ↦[xCols j]{fullShare} X c
/-- Device `c` holds half `b` of its fetch buffer, at contents `f`. -/
def halfAt (c : Dev nD) (b : Fin 2) (f : S2x512x512.Idx → F .f32) : sProp 𝕄 :=
  ((c : Thread nD τ).loc cc0_scratch0) ↦[half b]{fullShare} f

instance rows_storable (c j : Dev nD) (f) : BI.Storable (upEmb : UEmb _ 𝕄) (rows (F := F) c j f) := by unfold rows; infer_instance
instance slotAt_storable (c j : Dev nD) (f) : BI.Storable (upEmb : UEmb _ 𝕄) (slotAt (F := F) c j f) := by unfold slotAt; infer_instance

/-! ## The schedule -/

/-- The send and receive cells' duty: the peer's own. -/
abbrev Xfer (g : GSem nD τ sig) (d : Dev nD) : Prop := d ≠ g.1.1 ∧ (g.2 = .dma (semS d) ∨ g.2 = .dma (semR d))

/-- One round. Each peer's signal hands the right to write a row block of its result; each transfer hands its sender the
    staged slot back and its receiver the row block at its final contents. -/
def sched : Rounds.Schedule (GSem nD τ sig) (Dev nD) 𝕄 where
  duties g r := if r = 0 ∧ g.1.2 = .tc then
      if g.2 = .reg barSem then Finset.univ.erase g.1.1 else Finset.univ.filter fun d => Xfer g d
    else ∅
  unitless _ := False
  amount g _ _ := if g.2 = .reg barSem then 1 else N
  payload g _ d :=
    if g.2 = .reg barSem then iprop(∃ f, rows d g.1.1 f)
    else if g.2 = .dma (semR d) then rows g.1.1 d (resultOf X g.1.1)
    else slotAt g.1.1 d (stagedOf (X g.1.1))
  amount_pos g _ _ _ := by
    by_cases h : g.2 = .reg barSem
    · rw [if_pos h]; exact Nat.one_pos
    · rw [if_neg h]; exact N_pos

instance sched_payload_storable (g : GSem nD τ sig) (r : ℕ) (d : Dev nD) :
    BI.Storable (upEmb : UEmb _ 𝕄) ((sched X).payload g r d) := by
  show BI.Storable upEmb (if g.2 = .reg barSem then iprop(∃ f, rows d g.1.1 f)
    else if g.2 = .dma (semR d) then rows g.1.1 d (resultOf X g.1.1) else slotAt g.1.1 d (stagedOf (X g.1.1)))
  (repeat' split) <;> infer_instance

section Sched
variable (c j : Dev nD)

theorem dma_ne_bar (q : DmaSem sig) : (SemLoc.dma q : SemLoc sig) ≠ .reg barSem := fun h => by cases h
theorem dma_inj {p q : DmaSem sig} (h : (SemLoc.dma p : SemLoc sig) = .dma q) : p = q := by cases h; rfl

theorem duties_bar : (sched X).duties (barCell c) 0 = Finset.univ.erase c := by
  dsimp only [sched]; rw [if_pos ⟨rfl, rfl⟩, if_pos rfl]
theorem duties_send (h : j ≠ c) : (sched X).duties (sendCell c j) 0 = {j} := by
  dsimp only [sched]; rw [if_pos ⟨rfl, rfl⟩, if_neg (dma_ne_bar _)]
  ext d
  simp only [Finset.mem_filter, Finset.mem_univ, true_and, Finset.mem_singleton]
  exact ⟨fun ⟨_, hd⟩ => hd.elim (fun e => (semS_inj (dma_inj e)).symm) (fun e => absurd (dma_inj e) (semS_ne_semR _ _)),
    fun e => by subst e; exact ⟨h, Or.inl rfl⟩⟩
theorem duties_recv (h : j ≠ c) : (sched X).duties (recvCell c j) 0 = {j} := by
  dsimp only [sched]; rw [if_pos ⟨rfl, rfl⟩, if_neg (dma_ne_bar _)]
  ext d
  simp only [Finset.mem_filter, Finset.mem_univ, true_and, Finset.mem_singleton]
  exact ⟨fun ⟨_, hd⟩ => hd.elim (fun e => absurd (dma_inj e).symm (semS_ne_semR _ _)) (fun e => (semR_inj (dma_inj e)).symm),
    fun e => by subst e; exact ⟨h, Or.inr rfl⟩⟩
/-- A device's own send and receive cells have no duty. -/
theorem duties_own (q : SemLoc sig) (hq : q = .dma (semS c) ∨ q = .dma (semR c)) (r : ℕ) :
    (sched X).duties ((c : Thread nD τ), q) r = ∅ := by
  dsimp only [sched]
  split
  · have hb : q ≠ .reg barSem := by rcases hq with rfl | rfl <;> exact dma_ne_bar _
    rw [if_neg hb]
    refine Finset.filter_eq_empty_iff.mpr fun d _ hd => hd.1 ?_
    rcases hq with rfl | rfl
    · exact hd.2.elim (fun e => (semS_inj (dma_inj e)).symm) (fun e => absurd (dma_inj e) (semS_ne_semR _ _))
    · exact hd.2.elim (fun e => absurd (dma_inj e).symm (semS_ne_semR _ _)) (fun e => (semR_inj (dma_inj e)).symm)
  · rfl
theorem duties_later (g : GSem nD τ sig) (r : ℕ) (h : 1 ≤ r) : (sched X).duties g r = ∅ := by
  dsimp only [sched]; rw [if_neg fun h' => by omega]

theorem amount_bar (d : Dev nD) : (sched X).amount (barCell c) 0 d = 1 := by dsimp only [sched]; exact if_pos rfl
theorem amount_dma (q : DmaSem sig) (d : Dev nD) : (sched X).amount ((c : Thread nD τ), .dma q) 0 d = N := by
  dsimp only [sched]; exact if_neg (dma_ne_bar _)

theorem expect_bar : (sched X).expect (barCell c) 0 = 15 := by
  unfold Schedule.expect Schedule.amountOf
  rw [duties_bar, Finset.sum_congr rfl fun d _ => amount_bar X c d, Finset.sum_const, Finset.card_erase_of_mem (Finset.mem_univ _)]
  rfl
theorem expect_send (h : j ≠ c) : (sched X).expect (sendCell c j) 0 = N := by
  unfold Schedule.expect Schedule.amountOf; rw [duties_send X c j h, Finset.sum_singleton, amount_dma]
theorem expect_recv (h : j ≠ c) : (sched X).expect (recvCell c j) 0 = N := by
  unfold Schedule.expect Schedule.amountOf; rw [duties_recv X c j h, Finset.sum_singleton, amount_dma]

theorem payload_bar (d : Dev nD) : (sched X).payload (barCell c) 0 d = iprop(∃ f, rows d c f) := by dsimp only [sched]; rw [if_pos rfl]
theorem payload_send : (sched X).payload (sendCell c j) 0 j = slotAt c j (stagedOf (X c)) := by
  dsimp only [sched]; rw [if_neg (dma_ne_bar _), if_neg fun h => semS_ne_semR _ _ (dma_inj h)]
theorem payload_recv : (sched X).payload (recvCell c j) 0 j = rows c j (resultOf X c) := by
  dsimp only [sched]; rw [if_neg (dma_ne_bar _), if_pos rfl]

end Sched

/-! ## Families over a device's peers -/

/-- A family over the devices is its member at `c` and those at `c`'s peers. -/
theorem erase_peers (c : Dev nD) : Finset.univ.erase c = Finset.univ.map ⟨peer c, peer_inj c⟩ := by
  ext d
  simp only [Finset.mem_erase, Finset.mem_univ, and_true, Finset.mem_map, true_and, Function.Embedding.coeFn_mk]
  exact ⟨eq_peer c d, fun ⟨r, h⟩ => h ▸ peer_ne c r⟩
theorem over_peers (c : Dev nD) (Φ : Dev nD → sProp 𝕄) :
    bigSep (Finset.univ.erase c) Φ = bigSep Finset.univ fun r : Fin 15 => Φ (peer c r) := by
  rw [erase_peers, bigSep_map]; rfl
theorem around (c : Dev nD) (Φ : Dev nD → sProp 𝕄) :
    bigSep Finset.univ Φ = iprop(Φ c ∗ bigSep Finset.univ fun r : Fin 15 => Φ (peer c r)) := by
  rw [← over_peers, BI.bigSep_erase (Finset.mem_univ c)]; rfl

section Rest
variable (c j : Dev nD)
/-- What the barrier's wait hands over: the right to write row block `c` of every peer's result. -/
theorem rest_bar : bigSep ((sched X).duties (barCell c) 0 \ ∅) (fun d => (sched X).payload (barCell c) 0 d)
    = bigSep Finset.univ fun r : Fin 15 => iprop(∃ f, rows (F := F) (peer c r) c f) := by
  rw [Finset.sdiff_empty, duties_bar, over_peers]
  exact bigSep_congr fun r _ => payload_bar X c _
theorem rest_send (h : j ≠ c) : bigSep ((sched X).duties (sendCell c j) 0 \ ∅) (fun d => (sched X).payload (sendCell c j) 0 d)
    = slotAt c j (stagedOf (X c)) := by
  rw [Finset.sdiff_empty, duties_send X c j h, bigSep_singleton, payload_send]
theorem rest_recv (h : j ≠ c) : bigSep ((sched X).duties (recvCell c j) 0 \ ∅) (fun d => (sched X).payload (recvCell c j) 0 d)
    = rows c j (resultOf X c) := by
  rw [Finset.sdiff_empty, duties_recv X c j h, bigSep_singleton, payload_recv]
end Rest

/-! ## What a device owes, and the levels -/

/-- The sum of the entries of `t` from the `i`-th on. -/
def owedFrom (t : Fin 15 → CellTallies nD τ sig Unit) (i : ℕ) : CellTallies nD τ sig Unit :=
  ∑ r ∈ Finset.univ.filter (fun r : Fin 15 => i ≤ r.val), t r

theorem owedFrom_step (t : Fin 15 → CellTallies nD τ sig Unit) (r : Fin 15) : owedFrom t r.val = owedFrom t (r.val + 1) + t r := by
  unfold owedFrom
  have h : Finset.univ.filter (fun s : Fin 15 => r.val ≤ s.val) = insert r (Finset.univ.filter fun s : Fin 15 => r.val + 1 ≤ s.val) := by
    ext s
    simp only [Finset.mem_filter, Finset.mem_univ, true_and, Finset.mem_insert, Fin.ext_iff]
    omega
  rw [h, Finset.sum_insert (by simp), add_comm]
theorem owedFrom_end (t : Fin 15 → CellTallies nD τ sig Unit) : owedFrom t 15 = 0 :=
  Finset.sum_eq_zero fun r hr => by have := (Finset.mem_filter.mp hr).2; have := r.isLt; omega

/-- The unit device `c` owes its `r`-th peer's barrier; the block it owes that peer's receive cell. -/
def sigTally (c : Dev nD) (r : Fin 15) : CellTallies nD τ sig Unit := tallyAt (barCell (peer c r)) () 1
def sendTally (c : Dev nD) (r : Fin 15) : CellTallies nD τ sig Unit := tallyAt (recvCell (peer c r) c) () N

/-- What device `c` owes at launch. -/
def O₀ (c : Dev nD) : CellTallies nD τ sig Unit := owedFrom (sendTally c) 0 + owedFrom (sigTally c) 0

def L (g : GSem nD τ sig) : Finset Unit := if g.1.2 = .tc then {()} else ∅
/-- Barrier cells at 1, receive cells at 2, everything else at 0. -/
def level : SemLoc sig → ℕ
  | .reg _ => 1
  | .dma q => if 19 ≤ (show Fin 35 from q).val then 2 else 0
def lv (g : GSem nD τ sig) (_ : Unit) : ℕ := level g.2

theorem L_of_ne (g : GSem nD τ sig) (h : g.1.2 ≠ .tc) : L g = ∅ := if_neg h
theorem L_tc (c : Dev nD) (sm : SemLoc sig) : L ((c : Thread nD τ), sm) = {()} := if_pos rfl
theorem level_recv (j : Fin 16) : level (.dma (semR j)) = 2 := by revert j; decide

/-- A cell owed by a sum of transfers is one of theirs. -/
theorem owedFrom_pos {t : Fin 15 → GSem nD τ sig} {k : ℕ} {i : ℕ} {g : GSem nD τ sig} {u : Unit}
    (h : 0 < owedFrom (fun r => tallyAt (t r) () k) i g u) : ∃ r, g = t r := by
  unfold owedFrom at h
  rw [Finset.sum_apply, Finsupp.finset_sum_apply] at h
  obtain ⟨r, _, hr⟩ := Finset.exists_ne_zero_of_sum_ne_zero (Nat.pos_iff_ne_zero.mp h)
  refine ⟨r, ?_⟩
  by_contra hn
  exact hr (by rw [tallyAt_apply, if_neg fun e => hn e.1])

/-- While a device owes only transfers it may wait on any cell but a receive cell. -/
theorem mayWait (c : Dev nD) (sm : SemLoc sig) (h : level sm ≤ 1) (i : ℕ) :
    (levAts L lv : sProp 𝕄) ⊢ MayWait (c : Thread nD τ) sm () (owedFrom (sendTally c) i) :=
  MayOwe.of_cut (L := L) (lev := lv) 1 (fun p hp => by rw [Finset.mem_singleton.mp hp, L_tc]; exact Finset.mem_singleton_self _)
    (fun g u hg => by obtain ⟨r, rfl⟩ := owedFrom_pos hg; exact Finset.mem_singleton_self _)
    (fun p hp => by rw [Finset.mem_singleton.mp hp]; exact h)
    (fun g u hg => by obtain ⟨r, rfl⟩ := owedFrom_pos hg; show 1 < level (.dma (semR c)); rw [level_recv]; decide)

/-! ## The records every device reads: each cell's invariant, and that its round has begun -/

/-- The cells of a device: its barrier, its send cells, its receive cells. -/
abbrev Cell : Type := Unit ⊕ (Fin 16 ⊕ Fin 16)
abbrev csem : Cell → SemLoc sig
  | .inl _ => .reg barSem
  | .inr (.inl j) => .dma (semS j)
  | .inr (.inr j) => .dma (semR j)
abbrev kcell (ck : Dev nD × Cell) : GSem nD τ sig := ((ck.1 : Thread nD τ), csem ck.2)

def records (K : Dev nD × Cell → ℕ) : sProp 𝕄 :=
  iprop((bigSep Finset.univ fun ck : Dev nD × Cell => iprop(cellInv ER (sched X) (K ck) (kcell ck) ∗ reached ER (kcell ck) 0)) ∗ levAts L lv)

instance records_persistent (K : Dev nD × Cell → ℕ) : BI.Persistent (records X K) := by unfold records; infer_instance

theorem cell_at (K : Dev nD × Cell → ℕ) (ck : Dev nD × Cell) :
    (bigSep Finset.univ fun ck : Dev nD × Cell => iprop(cellInv ER (sched X) (K ck) (kcell ck) ∗ reached ER (kcell ck) 0))
      ⊢ iprop(cellInv ER (sched X) (K ck) (kcell ck) ∗ reached ER (kcell ck) 0) :=
  bigSep_elim (Finset.mem_univ ck)
theorem records_cell (K : Dev nD × Cell → ℕ) (ck : Dev nD × Cell) :
    records X K ⊢ iprop(cellInv ER (sched X) (K ck) (kcell ck) ∗ reached ER (kcell ck) 0) := by
  unfold records
  iintro ⟨H, -⟩
  iapply (cell_at X K ck)
  iexact H
theorem records_mayWait (K : Dev nD × Cell → ℕ) (c : Dev nD) (sm : SemLoc sig) (h : level sm ≤ 1) (i : ℕ) :
    records X K ⊢ MayWait (c : Thread nD τ) sm () (owedFrom (sendTally c) i) := by
  unfold records
  iintro ⟨-, H⟩
  iapply (mayWait c sm h i)
  iexact H

end Cert.Kernel.AllToAll

end
-- ==== Proof.Rules.lean ====
/-
  What each step of the body takes and gives. A step is described by what it needs beforehand and what it leaves, under the
  records all devices read; two steps run in order compose, and a step repeated over a list carries a state from each entry to
  the next and turns one resource per entry into another. The steps themselves follow, each once for a symbolic device and peer.
-/
module

public import proofs.«01_k».proof.Proof.Protocol

@[expose] public section

noncomputable section

namespace Cert.Kernel.AllToAll

open Cert.Kernel Cert.Kernel.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (Flight)

variable {F : FTy → Type} [FloatOps F]

local notation "𝕄" => MT nD τ sig Unit (Elt F) ℕ UU ℕ

variable (X : Fin 16 → S512x8192.Idx → F .f32) (K : Dev nD × Cell → ℕ)

/-- From `A` device `c` runs `p` and is left with `B`. -/
def Runs (c : Dev nD) (p : P F PUnit) (A B : sProp 𝕄) : Prop :=
  ∀ Q : PUnit → sProp 𝕄, iprop(records X K ∗ A ∗ (B -∗ Q ⟨⟩))
    ⊢ wp frame (wpE (defs₀ (F := F)) 𝒱₀ (c : Thread nD τ) none) Set.univ p Q

section Compose
variable {X K} {c : Dev nD}

theorem Runs.seq {p q : P F PUnit} {A B C : sProp 𝕄} (hp : Runs X K c p A B) (hq : Runs X K c q B C) :
    Runs X K c (p >>= fun _ => q) A C := fun Q => by
  rw [wp_bind]
  iintro ⟨#HR, HA, HQ⟩
  iapply (hp _)
  isplitr; · iexact HR
  isplitl [HA]; · iexact HA
  iintro HB
  iapply (hq Q)
  isplitr; · iexact HR
  isplitl [HB]; · iexact HB
  iexact HQ

theorem Runs.conseq {p : P F PUnit} {A A' B B' : sProp 𝕄} (hp : Runs X K c p A B) (hA : A' ⊢ A) (hB : B ⊢ B') :
    Runs X K c p A' B' := fun Q => by
  iintro ⟨HR, HA, HQ⟩
  iapply (hp Q)
  isplitl [HR]; · iexact HR
  isplitl [HA]; · iapply hA; iexact HA
  iintro HB
  iapply HQ
  iapply hB
  iexact HB

theorem Runs.frame {p : P F PUnit} {A B : sProp 𝕄} (hp : Runs X K c p A B) (R : sProp 𝕄) :
    Runs X K c p iprop(A ∗ R) iprop(B ∗ R) := fun Q => by
  iintro ⟨HR, ⟨HA, HF⟩, HQ⟩
  iapply (hp Q)
  isplitl [HR]; · iexact HR
  isplitl [HA]; · iexact HA
  iintro HB
  iapply HQ
  isplitl [HB] <;> iassumption

theorem Runs.done (A : sProp 𝕄) : Runs X K c (pure ⟨⟩) A A := fun Q => by
  rw [Prog.pure_eq_ret, wp_ret]
  iintro ⟨-, HA, HQ⟩
  imodintro
  iapply HQ
  iexact HA

theorem each_map {α β : Type} (g : α → β) (f : β → P F PUnit) (l : List α) : each f (l.map g) = each (fun a => f (g a)) l := by
  induction l with
  | nil => rfl
  | cons a l ih => exact congrArg (fun q => f (g a) >>= fun _ => q) ih

theorem bigSep_first {n : ℕ} (Φ : Fin (n + 1) → sProp 𝕄) :
    bigSep Finset.univ Φ = iprop(Φ 0 ∗ bigSep Finset.univ fun k : Fin n => Φ k.succ) := by
  rw [Fin.univ_succ, Finset.cons_eq_insert, BI.bigSep_insert (by simp), BI.bigSep_map]; rfl

/-- A repeated step: `S` passes from each entry to the next, and entry `r` turns `J r` into `J' r`. -/
theorem Runs.each {n : ℕ} {f : Fin n → P F PUnit} {S : ℕ → sProp 𝕄} {J J' : Fin n → sProp 𝕄} (s : ℕ)
    (h : ∀ r : Fin n, Runs X K c (f r) iprop(S (s + r.val) ∗ J r) iprop(S (s + (r.val + 1)) ∗ J' r)) :
    Runs X K c (each f (List.finRange n)) iprop(S s ∗ bigSep Finset.univ J) iprop(S (s + n) ∗ bigSep Finset.univ J') := by
  induction n generalizing s with
  | zero =>
    rw [List.finRange_zero, Nat.add_zero, Finset.univ_eq_empty, BI.bigSep_empty, BI.bigSep_empty]
    exact Runs.done _
  | succ n ih =>
    rw [List.finRange_succ, bigSep_first, bigSep_first]
    show Runs X K c (f 0 >>= fun _ => AllToAll.each f ((List.finRange n).map Fin.succ)) _ _
    rw [each_map]
    have h' := ih (f := fun r => f r.succ) (J := fun r => J r.succ) (J' := fun r => J' r.succ) (s + 1) fun r => by
      have := h r.succ
      rw [Fin.val_succ] at this
      rwa [show s + 1 + r.val = s + (r.val + 1) by omega, show s + 1 + (r.val + 1) = s + (r.val + 1 + 1) by omega]
    have h0 : Runs X K c (f 0) iprop(S s ∗ J 0) iprop(S (s + 1) ∗ J' 0) := h 0
    refine Runs.seq (B := iprop((S (s + 1) ∗ bigSep Finset.univ fun r : Fin n => J r.succ) ∗ J' 0)) ?_ ?_
    · refine (h0.frame (bigSep Finset.univ fun r : Fin n => J r.succ)).conseq ?_ ?_
      · iintro ⟨HS, HJ, HJs⟩
        isplitl [HS HJ]
        · isplitl [HS]; · iexact HS
          iexact HJ
        iexact HJs
      · iintro ⟨⟨HS, HJ⟩, HJs⟩
        isplitl [HS HJs]
        · isplitl [HS] <;> iassumption
        iexact HJ
    · refine (h'.frame (J' 0)).conseq .rfl ?_
      rw [show s + 1 + n = s + (n + 1) by omega]
      iintro ⟨⟨HS, HJs⟩, HJ⟩
      isplitl [HS]; · iexact HS
      isplitl [HJ] <;> iassumption

end Compose

/-! ## The steps -/

/-- What device `c` owes, whatever it has waited on. -/
def owing (c : Dev nD) (O : CellTallies nD τ sig Unit) : sProp 𝕄 := iprop(∃ W, owes (c : Thread nD τ) O W)

section Steps
variable (c : Dev nD) (r : Fin 15)

/-- A signal to the `r`-th peer hands it the right to write its row block of `c`'s result. -/
theorem signal_runs (O : CellTallies nD τ sig Unit) :
    Runs X K c (signal c r) iprop(owing c (O + sigTally c r) ∗ dutyTok ER (barCell (peer c r)) 0 c ∗ ∃ f, rows c (peer c r) f) (owing c O) := fun Q => by
  unfold signal
  rw [sigDev_eq]
  simp only [semSignalWord]
  unfold owing
  iintro ⟨#HR, ⟨⟨%W, HO⟩, Htok, Hrows⟩, HQ⟩
  ihave HC := (records_cell X K (peer c r, .inl ())) $$ HR
  icases HC with ⟨#HI, #Hr⟩
  iapply (Rounds.wp_signal 𝒱₀ ER (sched X) (c : Thread nD τ) none (dst := (peer c r : Thread nD τ)) (κ := K (peer c r, .inl ())) (r := 0)
      (d := c) (by rw [duties_bar]; exact Finset.mem_erase.mpr ⟨(peer_ne c r).symm, Finset.mem_univ _⟩)
      ((amount_bar X (peer c r) c).trans (by decide)) () O rfl) $$ [HO Htok Hrows]
  · isplitr; · iexact HI
    isplitl [HO]; · iexact HO
    isplitl [Htok]; · iexact Htok
    isplitl [Hrows]; · rw [payload_bar]; iexact Hrows
    iexact Hr
  iintro HO
  rw [wp_ret]; imodintro
  iapply HQ
  iexists W; iexact HO

/-- The wait for all peers' signals, owing transfers only. -/
theorem barrier_runs :
    Runs X K c (semWaitWord barSem 15#32)
      iprop(owing c (owedFrom (sendTally c) 0) ∗ cred (tallyAt (barCell c) () 15) ∗ atPos ER (barCell c) 0 ∅ 0)
      iprop(owing c (owedFrom (sendTally c) 0) ∗ atPos ER (barCell c) (0 + 1) ∅ 0
        ∗ bigSep Finset.univ fun r : Fin 15 => iprop(∃ f, rows (F := F) (peer c r) c f)) := fun Q => by
  simp only [semWaitWord]
  unfold owing
  iintro ⟨#HR, ⟨⟨%W, HO⟩, Hc, Hat⟩, HQ⟩
  ihave HC := (records_cell X K (c, .inl ())) $$ HR
  icases HC with ⟨#HI, -⟩
  iapply (Rounds.wp_wait_rest_token 𝒱₀ ER (sched X) (c : Thread nD τ) none (κ := K (c, .inl ()))
      (wpE_semWait_eq 𝒱₀ (c : Thread nD τ) none Set.univ) (Set.mem_univ _) () (O := owedFrom (sendTally c) 0) (W := W) (R := 0) (m := 0) (T := ∅)
      (by rw [expect_bar]; decide)) $$ [Hc HO Hat]
  · isplitr; · iexact HI
    isplitl [Hc]; · iexact Hc
    isplitl [HO]; · iexact HO
    isplitr; · iapply (records_mayWait X K c (.reg barSem) le_rfl 0); iexact HR
    iexact Hat
  iintro ⟨HO, Hat, -, Hpay⟩
  rw [wp_ret]; imodintro
  iapply HQ
  isplitl [HO]; · iexists _; iexact HO
  isplitl [Hat]; · iexact Hat
  iapply (Entails.of_eq (rest_bar X c)); iexact Hpay

end Steps

/-! ### Fetches -/

/-- A fetch's credit. -/
def Nf : ℕ := (bufM 0).view.dmaCredit
theorem Nf_pos : 0 < Nf := View.dmaCredit_pos _ (by decide)
theorem credit_b (b : Fin 2) : (bufM b).view.dmaCredit = Nf := rfl
theorem level_buf (b : Fin 2) : level (.dma (bufSem b)) ≤ 1 := by revert b; decide

/-- Half `b` of the fetch buffer and its semaphore, at rest. -/
def atRest (c : Dev nD) (b : Fin 2) : sProp 𝕄 := iprop((∃ f, halfAt c b f) ∗ semVal ((c : Thread nD τ), .dma (bufSem b)) 0)
/-- The fetch of column block `j` into half `b`, under way. -/
def busy (c : Dev nD) (b : Fin 2) (j : Dev nD) : sProp 𝕄 :=
  Flight EC (c : Thread nD τ) (.dma (bufSem b)) () Nf iprop(halfAt c b (fetchedOf (X c) j) ∗ cols X c j)

section Fetch
variable (c j : Dev nD) (b : Fin 2)

theorem cols_eq {off : Fin 2 → ℕ} (e : off = ![0, 512 * j.val]) (h) :
    cols X c j = (((xAt off h).view.loc (c : Thread nD τ)) ↦[(xAt off h).view.set]{fullShare} X c : sProp 𝕄) := by
  unfold cols; rw [xAt_set j e h]

theorem fetch_start {off : Fin 2 → ℕ} (e : off = ![0, 512 * j.val]) (h) {hsrc : (xAt off h).view.WordExact} {hdst : (bufM b).view.WordExact}
    {hsem : DmaTarget.Typed (nD := nD) (τ := τ) (p := .tc) .hbm (.dma (bufSem b)) (.here (bufM b))} :
    Runs X K c (Prog.lift (.enqueueDma (xAt off h) (.here (bufM b)) (.dma (bufSem b)) hsrc hdst hsem))
      iprop(cols X c j ∗ atRest c b) (busy X c b j) := fun Q => by
  unfold atRest
  iintro ⟨#HR, ⟨Hx, ⟨%f, Hb⟩, Hz⟩, HQ⟩
  ihave Hx := (Entails.of_eq (cols_eq X c j e h)) $$ Hx
  unfold halfAt
  iapply (Transfers.wp_dmaLocal EC 𝒱₀ (c : Thread nD τ) none (dst := bufM b) (sm := .dma (bufSem b)) (Sd := half b) (fd := f) () Nf (credit_b b) Nf_pos (by rw [bufM_set])) $$ [Hx Hb Hz]
  · isplitl [Hx]; · iexact Hx
    isplitl [Hb]; · iexact Hb
    iexact Hz
  iintro HF
  rw [wp_ret]; imodintro
  iapply HQ
  unfold busy
  iapply (Transfers.Flight_mono EC (c : Thread nD τ) ?_) $$ HF
  iintro ⟨Hb, Hx⟩
  isplitl [Hb]
  · unfold halfAt
    iapply (Entails.of_eq (pointsTo_congr fun i hi => fetch_write (X c) j b e h f i hi)); iexact Hb
  iapply (Entails.of_eq (cols_eq X c j e h).symm); iexact Hx

theorem fetch_wait {off : Fin 2 → ℕ} (h) {hsrc : (xAt off h).view.WordExact} {hdst : (bufM b).view.WordExact} (i : ℕ) :
    Runs X K c (Prog.lift (.waitDma2 (bufSem b) (xAt off h) (bufM b) hsrc hdst))
      iprop(owing c (owedFrom (sendTally c) i) ∗ busy X c b j)
      iprop(owing c (owedFrom (sendTally c) i) ∗ cols X c j ∗ halfAt c b (fetchedOf (X c) j) ∗ semVal ((c : Thread nD τ), .dma (bufSem b)) 0) := fun Q => by
  unfold owing busy
  iintro ⟨#HR, ⟨⟨%W, HO⟩, HF⟩, HQ⟩
  iapply (Transfers.wp_waitLocalO EC 𝒱₀ (c : Thread nD τ) none () (credit_b b)) $$ [HO HF]
  · isplitl [HF]; · iexact HF
    isplitl [HO]; · iexact HO
    iapply (records_mayWait X K c (.dma (bufSem b)) (level_buf b) i); iexact HR
  iintro ⟨⟨Hb, Hx⟩, Hz, HO⟩
  rw [wp_ret]; imodintro
  iapply HQ
  isplitl [HO]; · iexists _; iexact HO
  isplitl [Hx]; · iexact Hx
  isplitl [Hb] <;> iassumption

theorem staged_eq {off : Fin 3 → ℕ} (e : off = ![j.val, 0, 0]) (h) (f : S16x512x512.Idx → F .bf16) :
    ((sM.access (sRect off h)).loc (c : Thread nD τ) ↦[slot j]{fullShare}
        (sM.access (sRect off h)).write (Elt F) f (rounded ((bM.access (bRect b)).read (Elt F) (fetchedOf (X c) j))) Finset.univ : sProp 𝕄)
      = (((c : Thread nD τ).loc cc0_scratch1) ↦[slot j]{fullShare} stagedOf (X c)) :=
  pointsTo_congr fun i hi => stage_write (X c) j b e h f i hi

/-- The fetched block rounded into its slot. -/
theorem stage_runs {off : Fin 3 → ℕ} (e : off = ![j.val, 0, 0]) (h) {hl : bM.view.LoadsAt (bRect b).toLoadRect}
    {hl' : sM.view.LoadsAt (sRect off h).toLoadRect} {hs : (sM.access (sRect off h)).Stores Finset.univ} {hm} :
    Runs X K c (do
        let v : Vec F S1x512x512 .f32 ← Prog.lift (.load bM (bRect b).toLoadRect hl)
        let _ : Vec F S1x512x512 .bf16 ← Prog.lift (.load sM (sRect off h).toLoadRect hl')
        Prog.lift (.store sM (sRect off h) (rounded v) Finset.univ hs hm))
      iprop(halfAt c b (fetchedOf (X c) j) ∗ ∃ f, slotAt c j f)
      iprop(halfAt c b (fetchedOf (X c) j) ∗ slotAt c j (stagedOf (X c))) := fun Q => by
  simp only [Prog.lift, Prog.bind_op, Prog.bind_ret]
  unfold halfAt slotAt
  iintro ⟨-, ⟨Hb, ⟨%f, Hs⟩⟩, HQ⟩
  iapply (wp_load_rect 𝒱₀ (c : Thread nD τ) none Set.univ (m := bM) (r := bRect b) (S := half b) (bRect_set b).subset) $$ Hb; iintro Hb
  iapply (wp_load_rect 𝒱₀ (c : Thread nD τ) none Set.univ (m := sM) (r := sRect off h) (S := slot j) (sRect_set j e h).subset) $$ Hs; iintro Hs
  iapply (wp_store 𝒱₀ (c : Thread nD τ) none Set.univ (m := sM) (r := sRect off h) (Mk := Finset.univ) (S := slot j)
    ((View.setOn_univ _).trans (sRect_set j e h)).subset) $$ Hs; iintro Hs
  rw [wp_ret]; imodintro
  iapply HQ
  isplitl [Hb]; · iexact Hb
  iapply (Entails.of_eq (staged_eq X c j b e h f)); iexact Hs

end Fetch

/-! ### Sends -/

section Send
variable (c p : Dev nD)

theorem slotAt_eq {off : Fin 3 → ℕ} (e : off = ![p.val, 0, 0]) (h) (f : S16x512x512.Idx → F .bf16) :
    slotAt c p f = (((sAt off h).view.loc (c : Thread nD τ)) ↦[(sAt off h).view.set]{fullShare} f : sProp 𝕄) := by
  unfold slotAt; rw [sAt_set p e h]
theorem rows_eq (k : Dev nD) {off : Fin 2 → ℕ} (e : off = ![512 * p.val, 0]) (h) (f : S8192x512.Idx → F .bf16) :
    rows k p f = (((oAt off h).view.loc (k : Thread nD τ)) ↦[(oAt off h).view.set]{fullShare} f : sProp 𝕄) := by
  unfold rows; rw [oAt_set p e h]

/-- What a copy of device `k`'s slot `q` leaves in row block `k` of device `q`'s result. -/
theorem landed_eq (k q : Dev nD) {off : Fin 2 → ℕ} (e : off = ![512 * k.val, 0]) (h) {off' : Fin 3 → ℕ} (e' : off' = ![q.val, 0, 0]) (h')
    (f : S8192x512.Idx → F .bf16) :
    ((oAt off h).view.loc (q : Thread nD τ) ↦[(oAt off h).view.set]{fullShare}
        (oAt off h).view.write (Elt F) f ((sAt off' h').view.read (Elt F) (stagedOf (X k))) Finset.univ : sProp 𝕄)
      = rows q k (resultOf X q) := by
  rw [rows_eq k q e h]
  refine pointsTo_congr fun i hi => ?_
  rw [oAt_set k e h] at hi
  exact land_write X k q e h e' h' f i hi

/-- A send of slot `p` to device `p`, by which the block owed to `p`'s receive cell is paid. -/
theorem send_rule (hp : p ≠ c) {n : Dev nD} (hn : n = p) {sS sR : DmaSem sig} (hS : sS = semS p) (hR : sR = semR c)
    {off : Fin 2 → ℕ} (e : off = ![512 * c.val, 0]) (h) {off' : Fin 3 → ℕ} (e' : off' = ![p.val, 0, 0]) (h')
    {hsc : (oAt off h : Memref sig (Dev.tc n : Thread nD τ).2.kind .hbm S512x512 .bf16).view.ref.isScScratch = false}
    {hsrc : (sAt off' h').view.WordExact} {hdst : (oAt off h).view.WordExact}
    {hsem : DmaTarget.Typed (nD := nD) (τ := τ) (p := .tc) .vmem (.dma sR) (.remote (Dev.tc n : Thread nD τ) (oAt off h) (.dma sS) hsc)}
    (O : CellTallies nD τ sig Unit) :
    Runs X K c (Prog.lift (.enqueueDma (sAt off' h') (.remote (Dev.tc n : Thread nD τ) (oAt off h) (.dma sS) hsc) (.dma sR) hsrc hdst hsem))
      iprop(owing c (O + tallyAt (recvCell p c) () N) ∗ slotAt c p (stagedOf (X c)) ∗ (∃ f, rows p c f)
        ∗ dutyTok ER (sendCell c p) 0 p ∗ dutyTok ER (recvCell p c) 0 c)
      iprop(owing c O ∗ cred (tallyAt (sendCell c p) () N)) := fun Q => by
  subst hn hS hR
  unfold owing
  iintro ⟨#HR, ⟨⟨%W, HO⟩, Hs, ⟨%f, Hd⟩, HtS, HtR⟩, HQ⟩
  ihave HC := (records_cell X K (c, .inr (.inl n))) $$ HR
  icases HC with ⟨#HIs, #HrS⟩
  ihave HC := (records_cell X K (n, .inr (.inr c))) $$ HR
  icases HC with ⟨#HIr, #HrR⟩
  ihave Hs := (Entails.of_eq (slotAt_eq c n e' h' _)) $$ Hs
  ihave Hd := (Entails.of_eq (rows_eq c n e h f)) $$ Hd
  iapply (Rounds.wp_send_pointsTo 𝒱₀ ER (sched X) (c : Thread nD τ) none (c' := (n : Thread nD τ)) (src := sAt off' h') (dst := oAt off h)
      (sS := .dma (semS n)) (sem := .dma (semR c))
      (κ₁ := K (c, .inr (.inl n))) (κ₂ := K (n, .inr (.inr c)))
      (r₁ := 0) (r₂ := 0) (d₁ := n) (d₂ := c) (fd := f)
      (by rw [duties_send X c n hp]; exact Finset.mem_singleton_self _) (by rw [duties_recv X n c hp.symm]; exact Finset.mem_singleton_self _)
      () () N (credit_o off h) (amount_dma X c _ _) (amount_dma X n _ _) O rfl (W := W)
      (by rw [payload_send, slotAt_eq c n e' h']) (by rw [payload_recv, landed_eq X c n e h e' h'])) $$ [HO Hs Hd HtS HtR]
  · isplitr; · iexact HIs
    isplitr; · iexact HIr
    isplitl [Hs]; · iexact Hs
    isplitl [Hd]; · iexact Hd
    isplitl [HO]; · iexact HO
    isplitl [HtS]; · iexact HtS
    isplitr; · iexact HrS
    isplitl [HtR]; · iexact HtR
    iexact HrR
  iintro ⟨Hc, HO⟩
  rw [wp_ret]; imodintro
  iapply HQ
  isplitl [HO]; · iexists W; iexact HO
  iexact Hc

/-- A wait on one of the device's transfer cells, nothing owed: the cell's one payload. -/
theorem transfer_wait {q : DmaSem sig} {κ : ℕ} (hI : records X K ⊢ cellInv ER (sched X) κ ((c : Thread nD τ), .dma q))
    (he : (sched X).expect ((c : Thread nD τ), .dma q) 0 = N)
    {b : Ref sig .tc} {s : Shape} {e : EltTy} {hb} (hN : b.dmaCredit s e = N) :
    Runs X K c (Prog.lift (.waitDma q b s e hb))
      iprop(owing c 0 ∗ cred (tallyAt ((c : Thread nD τ), .dma q) () N) ∗ atPos ER ((c : Thread nD τ), .dma q) 0 ∅ 0)
      iprop(owing c 0 ∗ atPos ER ((c : Thread nD τ), .dma q) (0 + 1) ∅ 0
        ∗ bigSep ((sched X).duties ((c : Thread nD τ), .dma q) 0 \ ∅) fun d => (sched X).payload ((c : Thread nD τ), .dma q) 0 d) := fun Q => by
  unfold owing
  iintro ⟨#HR, ⟨⟨%W, HO⟩, Hc, Hat⟩, HQ⟩
  ihave #HI := hI $$ HR
  iapply (Rounds.wp_wait_rest_token 𝒱₀ ER (sched X) (c : Thread nD τ) none (κ := κ)
      (wpE_waitDma_eq 𝒱₀ (c : Thread nD τ) none Set.univ) (Set.mem_univ _) () (O := 0) (W := W) (R := 0) (m := 0) (T := ∅)
      (by rw [he, hN, Nat.zero_add])) $$ [Hc HO Hat]
  · isplitr; · iexact HI
    isplitl [Hc]; · rw [hN]; iexact Hc
    isplitl [HO]; · iexact HO
    isplitr; · rw [MayWait_zero]; iempintro
    iexact Hat
  iintro ⟨HO, Hat, -, Hpay⟩
  rw [wp_ret]; imodintro
  iapply HQ
  isplitl [HO]; · iexists _; iexact HO
  isplitl [Hat]; · iexact Hat
  iexact Hpay

end Send

section Waits
variable (c : Dev nD) (r : Fin 15)

theorem arrived_runs : Runs X K c (arrived c r)
    iprop(owing c 0 ∗ cred (tallyAt (recvCell c (peer c r)) () N) ∗ atPos ER (recvCell c (peer c r)) 0 ∅ 0)
    iprop(owing c 0 ∗ atPos ER (recvCell c (peer c r)) (0 + 1) ∅ 0 ∗ rows c (peer c r) (resultOf X c)) := by
  unfold arrived
  rw [recvSem_eq]
  rw [← rest_recv X c _ (peer_ne c r)]
  exact transfer_wait X K c ((records_cell X K (c, .inr (.inr (peer c r)))).trans sep_elim_left) (expect_recv X c _ (peer_ne c r)) (credit_o _ _)

theorem sent_runs : Runs X K c (sent c r)
    iprop(owing c 0 ∗ cred (tallyAt (sendCell c (peer c r)) () N) ∗ atPos ER (sendCell c (peer c r)) 0 ∅ 0)
    iprop(owing c 0 ∗ atPos ER (sendCell c (peer c r)) (0 + 1) ∅ 0 ∗ slotAt c (peer c r) (stagedOf (X c))) := by
  unfold sent
  rw [sendSem_eq]
  rw [← rest_send X c _ (peer_ne c r)]
  exact transfer_wait X K c ((records_cell X K (c, .inr (.inl (peer c r)))).trans sep_elim_left) (expect_send X c _ (peer_ne c r)) (credit_s _ _)

/-- The copy of the device's own slot into its own result, under way. -/
def copying (c : Dev nD) : sProp 𝕄 :=
  Flight EC (c : Thread nD τ) (.dma cpSem) () N iprop(rows c c (resultOf X c) ∗ slotAt c c (stagedOf (X c)))

theorem copy_start {off : Fin 2 → ℕ} (e : off = ![512 * c.val, 0]) (h) {off' : Fin 3 → ℕ} (e' : off' = ![c.val, 0, 0]) (h')
    {hsrc : (sAt off' h').view.WordExact} {hdst : (oAt off h).view.WordExact}
    {hsem : DmaTarget.Typed (nD := nD) (τ := τ) (p := .tc) .vmem (.dma cpSem) (.here (oAt off h))} :
    Runs X K c (Prog.lift (.enqueueDma (sAt off' h') (.here (oAt off h)) (.dma cpSem) hsrc hdst hsem))
      iprop(slotAt c c (stagedOf (X c)) ∗ (∃ f, rows c c f) ∗ semVal ((c : Thread nD τ), .dma cpSem) 0) (copying X c) := fun Q => by
  iintro ⟨#HR, ⟨Hs, ⟨%f, Hd⟩, Hz⟩, HQ⟩
  ihave Hs := (Entails.of_eq (slotAt_eq c c e' h' _)) $$ Hs
  ihave Hd := (Entails.of_eq (rows_eq c c e h f)) $$ Hd
  iapply (Transfers.wp_dmaLocal EC 𝒱₀ (c : Thread nD τ) none (src := sAt off' h') (dst := oAt off h) (sm := .dma cpSem) (Sd := (oAt off h).view.set) (fd := f)
    () N (credit_o off h) N_pos (Finset.Subset.refl _)) $$ [Hs Hd Hz]
  · isplitl [Hs]; · iexact Hs
    isplitl [Hd]; · iexact Hd
    iexact Hz
  iintro HF
  rw [wp_ret]; imodintro
  iapply HQ
  unfold copying
  iapply (Transfers.Flight_mono EC (c : Thread nD τ) ?_) $$ HF
  iintro ⟨Hd, Hs⟩
  isplitl [Hd]
  · iapply (Entails.of_eq (landed_eq X c c e h e' h' f)); iexact Hd
  iapply (Entails.of_eq (slotAt_eq c c e' h' _).symm); iexact Hs

theorem copied_runs : Runs X K c (copied c) iprop(owing c 0 ∗ copying X c)
    iprop(owing c 0 ∗ rows c c (resultOf X c) ∗ slotAt c c (stagedOf (X c)) ∗ semVal ((c : Thread nD τ), .dma cpSem) 0) := fun Q => by
  unfold copied owing copying
  iintro ⟨-, ⟨⟨%W, HO⟩, HF⟩, HQ⟩
  iapply (Transfers.wp_waitLocalO EC 𝒱₀ (c : Thread nD τ) none () (credit_o _ _)) $$ [HO HF]
  · isplitl [HF]; · iexact HF
    isplitl [HO]; · iexact HO
    rw [MayWait_zero]; iempintro
  iintro ⟨⟨Hd, Hs⟩, Hz, HO⟩
  rw [wp_ret]; imodintro
  iapply HQ
  isplitl [HO]; · iexists _; iexact HO
  isplitl [Hd]; · iexact Hd
  isplitl [Hs] <;> iassumption

end Waits

end Cert.Kernel.AllToAll

end
-- ==== Proof.Body.lean ====
/-
  A device's body from its pieces and rights to its result: the steps of the four repetitions put together, and the cells
  closed at the end, so that every semaphore the device waited on is back at zero.
-/
module

public import proofs.«01_k».proof.Proof.Rules

@[expose] public section

noncomputable section

namespace Cert.Kernel.AllToAll

open Cert.Kernel Cert.Kernel.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (X : Fin 16 → S512x8192.Idx → F .f32) (K : Dev nD × Cell → ℕ)

/-! ## One trip -/

section Trip
variable (c : Dev nD)

/-- Device `c` owes the sends from the `i`-th on. -/
abbrev owingSends (i : ℕ) : sProp 𝕄 := owing (F := F) c (owedFrom (sendTally c) i)

/-- What a send to the `r`-th peer needs besides the staged block: the right to its row block and the two cells' duties. -/
def ticket (r : Fin 15) : sProp 𝕄 :=
  iprop((∃ f, slotAt c (peer c r) f) ∗ (∃ f, rows (peer c r) c f)
    ∗ dutyTok ER (sendCell c (peer c r)) 0 (peer c r) ∗ dutyTok ER (recvCell (peer c r) c) 0 c)
/-- What it leaves: the input's columns, and the credit to wait for the slot with. -/
def stub (r : Fin 15) : sProp 𝕄 := iprop(cols X c (peer c r) ∗ cred (tallyAt (sendCell c (peer c r)) () N))

theorem fetch_runs (r : Fin 15) : Runs X K c (fetch c r) iprop(cols X c (peer c r) ∗ atRest c (par r)) (busy X c (par r) (peer c r)) :=
  fetch_start X K c (peer c r) (par r) (off1_eq c r) _

theorem fetched_runs (r : Fin 15) (i : ℕ) : Runs X K c (fetched c r) iprop(owingSends c i ∗ busy X c (par r) (peer c r))
    iprop(owingSends c i ∗ cols X c (peer c r) ∗ halfAt c (par r) (fetchedOf (X c) (peer c r)) ∗ semVal ((c : Thread nD τ), .dma (bufSem (par r))) 0) :=
  fetch_wait X K c (peer c r) (par r) (off := k0_off1 c (wd r)) (k0_off1_inb c r) i

theorem send_runs (r : Fin 15) : Runs X K c (send c r)
    iprop(owingSends c r.val ∗ slotAt c (peer c r) (stagedOf (X c)) ∗ (∃ f, rows (peer c r) c f)
      ∗ dutyTok ER (sendCell c (peer c r)) 0 (peer c r) ∗ dutyTok ER (recvCell (peer c r) c) 0 c)
    iprop(owingSends c (r.val + 1) ∗ cred (tallyAt (sendCell c (peer c r)) () N)) := by
  unfold owingSends
  rw [owedFrom_step]
  exact send_rule X K c (peer c r) (peer_ne c r) (sendDev_eq c r) (sendSem_eq c r) (landSem_eq c) (off5_eq c) _ (off6_eq c r) _ _

/-- A fetched block staged and sent. -/
theorem deliver_runs (r : Fin 15) : Runs X K c (stage c r >>= fun _ => send c r)
    iprop(owingSends c r.val ∗ cols X c (peer c r) ∗ halfAt c (par r) (fetchedOf (X c) (peer c r))
      ∗ semVal ((c : Thread nD τ), .dma (bufSem (par r))) 0 ∗ ticket c r)
    iprop(owingSends c (r.val + 1) ∗ atRest c (par r) ∗ stub X c r) := fun Q => by
  rw [wp_bind]
  unfold ticket stub atRest
  iintro ⟨#HR, ⟨HO, Hx, Hb, Hz, Hs, Hd, HtS, HtR⟩, HQ⟩
  iapply (stage_runs X K c (peer c r) (par r) (off2_eq c r) (k0_off2_inb c r) _)
  isplitr; · iexact HR
  isplitl [Hb Hs]; · isplitl [Hb] <;> iassumption
  iintro ⟨Hb, Hs⟩
  iapply (send_runs X K c r Q)
  isplitr; · iexact HR
  isplitl [HO Hs Hd HtS HtR]
  · isplitl [HO]; · iexact HO
    isplitl [Hs]; · iexact Hs
    isplitl [Hd]; · iexact Hd
    isplitl [HtS] <;> iassumption
  iintro ⟨HO, Hc⟩
  iapply HQ
  isplitl [HO]; · iexact HO
  isplitl [Hb Hz]
  · isplitl [Hb]; · iexists _; iexact Hb
    iexact Hz
  isplitl [Hx] <;> iassumption

/-- The `i`-th peer, and the half its block is fetched into. -/
abbrev peerAt (i : ℕ) : Dev nD := ⟨(c.val + (i + 1)) % 16, Nat.mod_lt _ (by decide)⟩
abbrev halfOf (i : ℕ) : Fin 2 := ⟨i % 2, Nat.mod_lt _ Nat.two_pos⟩

/-- Before the `i`-th trip: the `i`-th fetch under way and the other half at rest. -/
def fetching (i : ℕ) : sProp 𝕄 :=
  iprop(owingSends c i ∗ busy X c (halfOf i) (peerAt c i) ∗ atRest c (halfOf (i + 1)))

theorem halfOf_next (i : ℕ) : halfOf (i + 1 + 1) = halfOf i := Fin.ext (by show (i + 1 + 1) % 2 = i % 2; omega)

theorem trip_runs (r : Fin 14) : Runs X K c (trip c r)
    iprop(fetching X c r.val ∗ cols X c (peer c r.succ) ∗ ticket c r.castSucc)
    iprop(fetching X c (r.val + 1) ∗ stub X c r.castSucc) := fun Q => by
  have h1 : Runs X K c (fetched c r.castSucc) iprop(owingSends c r.val ∗ busy X c (halfOf r.val) (peerAt c r.val)) _ :=
    fetched_runs X K c r.castSucc r.val
  have h2 : Runs X K c (fetch c r.succ) iprop(cols X c (peer c r.succ) ∗ atRest c (halfOf (r.val + 1)))
      (busy X c (halfOf (r.val + 1)) (peerAt c (r.val + 1))) := fetch_runs X K c r.succ
  have h3 : Runs X K c (stage c r.castSucc >>= fun _ => send c r.castSucc) _
      iprop(owingSends c (r.val + 1) ∗ atRest c (halfOf r.val) ∗ stub X c r.castSucc) := deliver_runs X K c r.castSucc
  unfold trip
  simp only [wp_bind]
  unfold fetching
  iintro ⟨#HR, ⟨⟨HO, HF, Hrest⟩, Hx', Ht⟩, HQ⟩
  iapply (h1 _)
  isplitr; · iexact HR
  isplitl [HO HF]; · isplitl [HO] <;> iassumption
  iintro ⟨HO, Hx, Hb, Hz⟩
  iapply (h2 _)
  isplitr; · iexact HR
  isplitl [Hx' Hrest]; · isplitl [Hx'] <;> iassumption
  iintro HF
  rw [← wp_bind]
  iapply (h3 Q)
  isplitr; · iexact HR
  isplitl [HO Hx Hb Hz Ht]
  · isplitl [HO]; · iexact HO
    isplitl [Hx]; · iexact Hx
    isplitl [Hb]; · iexact Hb
    isplitl [Hz] <;> iassumption
  iintro ⟨HO, Hrest, Hst⟩
  iapply HQ
  isplitr [Hst]
  · isplitl [HO]; · iexact HO
    isplitl [HF]; · iexact HF
    rw [halfOf_next]; iexact Hrest
  iexact Hst

theorem lastTrip_runs : Runs X K c (lastTrip c)
    iprop(fetching X c 14 ∗ ticket c 14)
    iprop(owing c 0 ∗ atRest c 0 ∗ atRest c 1 ∗ stub X c 14) := fun Q => by
  have h1 : Runs X K c (fetched c 14) iprop(owingSends c 14 ∗ busy X c (halfOf 14) (peerAt c 14)) _ := fetched_runs X K c 14 14
  have h3 : Runs X K c (stage c 14 >>= fun _ => send c 14) _ iprop(owingSends c 15 ∗ atRest c 0 ∗ stub X c 14) := deliver_runs X K c 14
  unfold owingSends at h3
  rw [owedFrom_end] at h3
  unfold lastTrip
  simp only [wp_bind]
  unfold fetching
  rw [show halfOf (14 + 1) = 1 from rfl]
  iintro ⟨#HR, ⟨⟨HO, HF, Hrest⟩, Ht⟩, HQ⟩
  iapply (h1 _)
  isplitr; · iexact HR
  isplitl [HO HF]; · isplitl [HO] <;> iassumption
  iintro ⟨HO, Hx, Hb, Hz⟩
  rw [← wp_bind]
  iapply (h3 Q)
  isplitr; · iexact HR
  isplitl [HO Hx Hb Hz Ht]
  · isplitl [HO]; · iexact HO
    isplitl [Hx]; · iexact Hx
    isplitl [Hb]; · iexact Hb
    isplitl [Hz] <;> iassumption
  iintro ⟨HO, Hrest', Hst⟩
  iapply HQ
  isplitl [HO]; · iexact HO
  isplitl [Hrest']; · iexact Hrest'
  isplitl [Hrest] <;> iassumption

/-- The device's own block staged and its copy started. -/
theorem own_deliver {hl : bM.view.LoadsAt (bRect 0).toLoadRect} {hl' : sM.view.LoadsAt (stOwnRect c).toLoadRect}
    {hs : (sM.access (stOwnRect c)).Stores Finset.univ} {hm}
    {hsrc : (stOwn c).view.WordExact} {hdst : (oOwn c).view.WordExact}
    {hsem : DmaTarget.Typed (nD := nD) (τ := τ) (p := .tc) .vmem (.dma cpSem) (.here (oOwn c))} :
    Runs X K c (do
        let v : Vec F S1x512x512 .f32 ← Prog.lift (.load bM (bRect 0).toLoadRect hl)
        let _ : Vec F S1x512x512 .bf16 ← Prog.lift (.load sM (stOwnRect c).toLoadRect hl')
        Prog.lift (.store sM (stOwnRect c) (rounded v) Finset.univ hs hm)
        Prog.lift (.enqueueDma (stOwn c) (.here (oOwn c)) (.dma cpSem) hsrc hdst hsem))
      iprop((halfAt c 0 (fetchedOf (X c) c) ∗ ∃ f, slotAt c c f) ∗ (∃ f, rows c c f) ∗ semVal ((c : Thread nD τ), .dma cpSem) 0)
      iprop(copying X c ∗ halfAt c 0 (fetchedOf (X c) c)) := by
  refine Runs.seq ((stage_runs X K c c 0 (off8_eq c) (k0_off8_inb c) (hl := hl) (hl' := hl') (hs := hs) (hm := hm)).frame _)
    (((copy_start X K c (off5_eq c) (k0_off5_inb c) (off9_eq c) (k0_off9_inb c)).frame (halfAt c 0 (fetchedOf (X c) c))).conseq ?_ .rfl)
  iintro ⟨⟨Hb, Hs⟩, Hd, Hz⟩
  isplitr [Hb]
  · isplitl [Hs]; · iexact Hs
    isplitl [Hd] <;> iassumption
  iexact Hb

/-- The device's own block. -/
theorem ownTrip_runs : Runs X K c (ownTrip c)
    iprop(owing c 0 ∗ atRest c 0 ∗ cols X c c ∗ (∃ f, slotAt c c f) ∗ (∃ f, rows c c f) ∗ semVal ((c : Thread nD τ), .dma cpSem) 0)
    iprop(owing c 0 ∗ atRest c 0 ∗ cols X c c ∗ copying X c) := fun Q => by
  have hw := fetch_wait X K c c 0 (k0_off7_inb c) (hsrc := View.wordExact_bits rfl) (hdst := (View.wordExact_bits rfl).reshape _ _) 15
  rw [owedFrom_end] at hw
  unfold ownTrip
  iintro ⟨#HR, ⟨HO, Hrest, Hx, Hs, Hd, Hz⟩, HQ⟩
  rw [wp_bind]
  iapply (fetch_start X K c c 0 (off7_eq c) (k0_off7_inb c) _)
  isplitr; · iexact HR
  isplitl [Hx Hrest]; · isplitl [Hx] <;> iassumption
  iintro HF
  rw [wp_bind]
  iapply (hw _)
  isplitr; · iexact HR
  isplitl [HO HF]; · isplitl [HO] <;> iassumption
  iintro ⟨HO, Hx, Hb, Hzb⟩
  iapply (own_deliver X K c Q)
  isplitr; · iexact HR
  isplitl [Hb Hs Hd Hz]
  · isplitl [Hb Hs]; · isplitl [Hb] <;> iassumption
    isplitl [Hd] <;> iassumption
  iintro ⟨Hcp, Hb⟩
  iapply HQ
  isplitl [HO]; · iexact HO
  isplitl [Hb Hzb]
  · unfold atRest
    isplitl [Hb]; · iexists _; iexact Hb
    iexact Hzb
  isplitl [Hx] <;> iassumption

end Trip

/-! ## The body -/

/-- What device `c` holds for its `r`-th peer at the start, and at the end. -/
def peerPre (c : Dev nD) (r : Fin 15) : sProp 𝕄 :=
  iprop((dutyTok ER (barCell (peer c r)) 0 c ∗ ∃ f, rows c (peer c r) f)
    ∗ cols X c (peer c r) ∗ (∃ f, slotAt c (peer c r) f)
    ∗ dutyTok ER (sendCell c (peer c r)) 0 (peer c r) ∗ dutyTok ER (recvCell (peer c r) c) 0 c
    ∗ (cred (tallyAt (recvCell c (peer c r)) () N) ∗ atPos ER (recvCell c (peer c r)) 0 ∅ 0)
    ∗ atPos ER (sendCell c (peer c r)) 0 ∅ 0)
def peerPost (c : Dev nD) (r : Fin 15) : sProp 𝕄 :=
  iprop(cols X c (peer c r) ∗ rows c (peer c r) (resultOf X c) ∗ slotAt c (peer c r) (stagedOf (X c))
    ∗ semVal (recvCell c (peer c r)) 0 ∗ semVal (sendCell c (peer c r)) 0)
/-- The same for its own block. -/
def ownPre (c : Dev nD) : sProp 𝕄 :=
  iprop((∃ f, rows c c f) ∗ cols X c c ∗ (∃ f, slotAt c c f) ∗ atPos ER (recvCell c c) 0 ∅ 0 ∗ atPos ER (sendCell c c) 0 ∅ 0)
def ownPost (c : Dev nD) : sProp 𝕄 :=
  iprop(cols X c c ∗ rows c c (resultOf X c) ∗ slotAt c c (stagedOf (X c)) ∗ semVal (recvCell c c) 0 ∗ semVal (sendCell c c) 0)
/-- The fetch buffer and the copy semaphore at rest. -/
def local0 (c : Dev nD) : sProp 𝕄 := iprop(atRest c 0 ∗ atRest c 1 ∗ semVal ((c : Thread nD τ), .dma cpSem) 0)

def bodyPre (c : Dev nD) : sProp 𝕄 :=
  iprop(owing c (O₀ c) ∗ (cred (tallyAt (barCell c) () 15) ∗ atPos ER (barCell c) 0 ∅ 0) ∗ local0 c ∗ ownPre X c
    ∗ bigSep Finset.univ (peerPre X c))
def bodyPost (c : Dev nD) : sProp 𝕄 :=
  iprop(owing c 0 ∗ semVal (barCell c) 0 ∗ local0 c ∗ ownPost X c ∗ bigSep Finset.univ (peerPost X c))

theorem peers_eq : peers = List.finRange 15 := rfl
theorem trips_eq : trips = List.finRange 14 := rfl

theorem bigSep_last {n : ℕ} (Φ : Fin (n + 1) → sProp 𝕄) :
    bigSep Finset.univ Φ = iprop(Φ (Fin.last n) ∗ bigSep Finset.univ fun k : Fin n => Φ k.castSucc) := by
  rw [Fin.univ_castSuccEmb, Finset.cons_eq_insert, BI.bigSep_insert (by simp), BI.bigSep_map]; rfl

section Loops
variable (c : Dev nD)

theorem signals_run : Runs X K c (each (signal c) peers)
    iprop(owing c (O₀ c) ∗ bigSep Finset.univ fun r : Fin 15 => iprop(dutyTok ER (barCell (peer c r)) 0 c ∗ ∃ f, rows (F := F) c (peer c r) f))
    (owingSends c 0) := by
  rw [peers_eq]
  refine (Runs.each (S := fun i => owing c (owedFrom (sendTally c) 0 + owedFrom (sigTally c) i)) (J' := fun _ => iprop(emp)) 0 fun r => ?_).conseq .rfl ?_
  · rw [Nat.zero_add, Nat.zero_add, owedFrom_step, ← add_assoc]
    refine (signal_runs X K c r _).conseq .rfl ?_
    iintro H
    isplitl; · iexact H
    iempintro
  · show iprop(owing c (owedFrom (sendTally c) 0 + owedFrom (sigTally c) 15) ∗ _) ⊢ _
    rw [owedFrom_end, add_zero]
    iintro ⟨H, -⟩
    iexact H

theorem trips_run : Runs X K c (each (trip c) trips)
    iprop(fetching X c 0 ∗ bigSep Finset.univ fun r : Fin 14 => iprop(cols X c (peer c r.succ) ∗ ticket c r.castSucc))
    iprop(fetching X c 14 ∗ bigSep Finset.univ fun r : Fin 14 => stub X c r.castSucc) := by
  rw [trips_eq]
  refine Runs.each (S := fetching X c) 0 fun r => ?_
  rw [Nat.zero_add, Nat.zero_add]
  exact trip_runs X K c r

theorem arrivals_run : Runs X K c (each (arrived c) peers)
    iprop(owing c 0 ∗ bigSep Finset.univ fun r : Fin 15 => iprop(cred (tallyAt (recvCell c (peer c r)) () N) ∗ atPos ER (recvCell c (peer c r)) 0 ∅ 0))
    iprop(owing c 0 ∗ bigSep Finset.univ fun r : Fin 15 => iprop(atPos ER (recvCell c (peer c r)) (0 + 1) ∅ 0 ∗ rows c (peer c r) (resultOf X c))) := by
  rw [peers_eq]
  exact Runs.each (S := fun _ => owing c 0) 0 fun r => arrived_runs X K c r

theorem sents_run : Runs X K c (each (sent c) peers)
    iprop(owing c 0 ∗ bigSep Finset.univ fun r : Fin 15 => iprop(cred (tallyAt (sendCell c (peer c r)) () N) ∗ atPos ER (sendCell c (peer c r)) 0 ∅ 0))
    iprop(owing c 0 ∗ bigSep Finset.univ fun r : Fin 15 => iprop(atPos ER (sendCell c (peer c r)) (0 + 1) ∅ 0 ∗ slotAt c (peer c r) (stagedOf (X c)))) := by
  rw [peers_eq]
  exact Runs.each (S := fun _ => owing c 0) 0 fun r => sent_runs X K c r

end Loops

/-! ## Closing the cells -/

/-- Something kept may be used at every member of a family. -/
theorem spread {I : Type} [DecidableEq I] {s : Finset I} {R : sProp 𝕄} [BI.Persistent R] {Φ Ψ : I → sProp 𝕄}
    (h : ∀ i, iprop(R ∗ Φ i) ⊢ Ψ i) : iprop(R ∗ bigSep s Φ) ⊢ bigSep s Ψ := by
  refine BIBase.Entails.trans (sep_mono_left (BI.bigSep_of_persistent s R)) ?_
  rw [← bigSep_sep']
  exact bigSep_mono fun i _ => h i

theorem close (ck : Dev nD × Cell) (R : ℕ) (hR : ∀ r, R ≤ r → (sched X).duties (kcell ck) r = ∅) :
    iprop(records X K ∗ atPos ER (kcell ck) R ∅ 0) ⊢ |={Set.univ}=> semVal (kcell ck) 0 := by
  iintro ⟨#HR, Hat⟩
  ihave HC := (records_cell X K ck) $$ HR
  icases HC with ⟨#HI, -⟩
  iapply (Rounds.cell_close ER (sched X) (Set.mem_univ (K ck)) (fun h => h) (R := R) hR)
  isplitr; · iexact HI
  iexact Hat

theorem close_all (k : Fin 15 → Dev nD × Cell) :
    iprop(records X K ∗ bigSep Finset.univ fun r => atPos ER (kcell (k r)) (0 + 1) ∅ 0)
      ⊢ |={Set.univ}=> bigSep Finset.univ fun r => semVal (kcell (k r)) 0 :=
  (spread fun r => close X K (k r) (0 + 1) fun _ h => duties_later X _ _ h).trans (bigSep_fupd _ _)

/-- What the last step leaves, before the cells are closed. -/
def bodyEnd (c : Dev nD) : sProp 𝕄 :=
  iprop(owing c 0 ∗ atPos ER (barCell c) (0 + 1) ∅ 0 ∗ local0 c
    ∗ (cols X c c ∗ rows c c (resultOf X c) ∗ slotAt c c (stagedOf (X c)) ∗ atPos ER (recvCell c c) 0 ∅ 0 ∗ atPos ER (sendCell c c) 0 ∅ 0)
    ∗ (bigSep Finset.univ fun r : Fin 15 => cols X c (peer c r))
    ∗ (bigSep Finset.univ fun r : Fin 15 => iprop(atPos ER (recvCell c (peer c r)) (0 + 1) ∅ 0 ∗ rows c (peer c r) (resultOf X c)))
    ∗ bigSep Finset.univ fun r : Fin 15 => iprop(atPos ER (sendCell c (peer c r)) (0 + 1) ∅ 0 ∗ slotAt c (peer c r) (stagedOf (X c))))

theorem bodyEnd_close (c : Dev nD) : iprop(records X K ∗ bodyEnd X c) ⊢ |={Set.univ}=> bodyPost X c := by
  have hp : bigSep Finset.univ (peerPost X c) = iprop((bigSep Finset.univ fun r : Fin 15 => cols X c (peer c r))
      ∗ (bigSep Finset.univ fun r : Fin 15 => rows c (peer c r) (resultOf X c))
      ∗ (bigSep Finset.univ fun r : Fin 15 => slotAt c (peer c r) (stagedOf (X c)))
      ∗ (bigSep Finset.univ fun r : Fin 15 => semVal (recvCell c (peer c r)) 0)
      ∗ bigSep Finset.univ fun r : Fin 15 => semVal (sendCell c (peer c r)) 0) := by
    unfold peerPost; simp only [bigSep_sep']
  unfold bodyEnd bodyPost ownPost
  simp only [bigSep_sep', hp]
  iintro ⟨#HR, HO, Hbar, Hl, ⟨Hx, Hd, Hs, HaR, HaS⟩, Hxs, ⟨HaRs, Hds⟩, HaSs, Hss⟩
  imod (close X K (c, .inl ()) (0 + 1) fun _ h => duties_later X _ _ h) $$ [Hbar] with Hbar
  · isplitr; · iexact HR
    iexact Hbar
  imod (close X K (c, .inr (.inr c)) 0 fun r _ => duties_own X c _ (.inr rfl) r) $$ [HaR] with HzR
  · isplitr; · iexact HR
    iexact HaR
  imod (close X K (c, .inr (.inl c)) 0 fun r _ => duties_own X c _ (.inl rfl) r) $$ [HaS] with HzS
  · isplitr; · iexact HR
    iexact HaS
  imod (close_all X K fun r => (c, .inr (.inr (peer c r)))) $$ [HaRs] with HzRs
  · isplitr; · iexact HR
    iexact HaRs
  imod (close_all X K fun r => (c, .inr (.inl (peer c r)))) $$ [HaSs] with HzSs
  · isplitr; · iexact HR
    iexact HaSs
  imodintro
  isplitl [HO]; · iexact HO
  isplitl [Hbar]; · iexact Hbar
  isplitl [Hl]; · iexact Hl
  isplitl [Hx Hd Hs HzR HzS]
  · isplitl [Hx]; · iexact Hx
    isplitl [Hd]; · iexact Hd
    isplitl [Hs]; · iexact Hs
    isplitl [HzR]; · iexact HzR
    iexact HzS
  isplitl [Hxs]; · iexact Hxs
  isplitl [Hds]; · iexact Hds
  isplitl [Hss]; · iexact Hss
  isplitl [HzRs]; · iexact HzRs
  iexact HzSs

/-! ## The whole body -/

theorem body_end (c : Dev nD) : Runs X K c (body c) (bodyPre X c) (bodyEnd X c) := fun Q => by
  unfold body
  simp only [wp_bind]
  unfold bodyPre local0 ownPre peerPre
  simp only [bigSep_sep']
  iintro ⟨#HR, ⟨HO, ⟨HcB, HaB⟩, ⟨Hr0, Hr1, Hz⟩, ⟨Hd, Hx, Hs, HaR, HaS⟩, ⟨HtB, Hds⟩, Hxs, Hss, HtS, HtR, ⟨HcR, HaRs⟩, HaSs⟩, HQ⟩
  iapply (signals_run X K c _)
  isplitr; · iexact HR
  isplitl [HO HtB Hds]
  · isplitl [HO]; · iexact HO
    rw [bigSep_sep']
    isplitl [HtB] <;> iassumption
  iintro HO
  iapply (barrier_runs X K c _)
  isplitr; · iexact HR
  isplitl [HO HcB HaB]
  · isplitl [HO]; · iexact HO
    isplitl [HcB] <;> iassumption
  iintro ⟨HO, HaB, Hds⟩
  ihave Hxs := (Entails.of_eq (bigSep_first fun r : Fin 15 => cols X c (peer c r))) $$ Hxs
  icases Hxs with ⟨Hx0, Hxs⟩
  iapply (fetch_runs X K c 0 _)
  isplitr; · iexact HR
  isplitl [Hx0 Hr0]
  · isplitl [Hx0]; · iexact Hx0
    iexact Hr0
  iintro HF
  ihave Ht := (show iprop((bigSep Finset.univ fun r : Fin 15 => iprop(∃ f, slotAt c (peer c r) f))
      ∗ (bigSep Finset.univ fun r : Fin 15 => iprop(∃ f, rows (F := F) (peer c r) c f))
      ∗ (bigSep Finset.univ fun r : Fin 15 => dutyTok ER (sendCell c (peer c r)) 0 (peer c r))
      ∗ bigSep Finset.univ fun r : Fin 15 => dutyTok ER (recvCell (peer c r) c) 0 c)
      ⊢ iprop(ticket c 14 ∗ bigSep Finset.univ fun r : Fin 14 => ticket (F := F) c r.castSucc) from
      Entails.of_eq (by rw [← bigSep_sep', ← bigSep_sep', ← bigSep_sep']; exact bigSep_last (fun r : Fin 15 => ticket c r))) $$ [Hss Hds HtS HtR]
  · isplitl [Hss]; · iexact Hss
    isplitl [Hds]; · iexact Hds
    isplitl [HtS] <;> iassumption
  icases Ht with ⟨Ht, Hts⟩
  iapply (trips_run X K c _)
  isplitr; · iexact HR
  isplitl [HO HF Hr1 Hxs Hts]
  · unfold fetching
    isplitl [HO HF Hr1]
    · isplitl [HO]; · iexact HO
      isplitl [HF]; · iexact HF
      iexact Hr1
    rw [bigSep_sep']
    isplitl [Hxs]; · iexact Hxs
    iexact Hts
  iintro ⟨HS, Hst⟩
  iapply (lastTrip_runs X K c _)
  isplitr; · iexact HR
  isplitl [HS Ht]; · isplitl [HS] <;> iassumption
  iintro ⟨HO, Hr0, Hr1, Hst'⟩
  ihave Hst := (show iprop(stub X c 14 ∗ bigSep Finset.univ fun r : Fin 14 => stub X c r.castSucc)
      ⊢ iprop((bigSep Finset.univ fun r : Fin 15 => cols X c (peer c r))
        ∗ bigSep Finset.univ fun r : Fin 15 => cred (tallyAt (sendCell c (peer c r)) () N)) from
      Entails.of_eq (by rw [← bigSep_sep']; exact (bigSep_last (fun r : Fin 15 => stub X c r)).symm)) $$ [Hst' Hst]
  · isplitl [Hst'] <;> iassumption
  icases Hst with ⟨Hxs, HcS⟩
  iapply (ownTrip_runs X K c _)
  isplitr; · iexact HR
  isplitl [HO Hr0 Hx Hs Hd Hz]
  · isplitl [HO]; · iexact HO
    isplitl [Hr0]; · iexact Hr0
    isplitl [Hx]; · iexact Hx
    isplitl [Hs]; · iexact Hs
    isplitl [Hd] <;> iassumption
  iintro ⟨HO, Hr0, Hx, Hcp⟩
  iapply (arrivals_run X K c _)
  isplitr; · iexact HR
  isplitl [HO HcR HaRs]
  · isplitl [HO]; · iexact HO
    rw [bigSep_sep']
    isplitl [HcR] <;> iassumption
  iintro ⟨HO, Hin⟩
  iapply (copied_runs X K c _)
  isplitr; · iexact HR
  isplitl [HO Hcp]; · isplitl [HO] <;> iassumption
  iintro ⟨HO, Hd, Hs, Hz⟩
  iapply (sents_run X K c Q)
  isplitr; · iexact HR
  isplitl [HO HcS HaSs]
  · isplitl [HO]; · iexact HO
    rw [bigSep_sep']
    isplitl [HcS] <;> iassumption
  iintro ⟨HO, Hout⟩
  iapply HQ
  unfold bodyEnd local0
  isplitl [HO]; · iexact HO
  isplitl [HaB]; · iexact HaB
  isplitl [Hr0 Hr1 Hz]
  · isplitl [Hr0]; · iexact Hr0
    isplitl [Hr1] <;> iassumption
  isplitl [Hx Hd Hs HaR HaS]
  · isplitl [Hx]; · iexact Hx
    isplitl [Hd]; · iexact Hd
    isplitl [Hs]; · iexact Hs
    isplitl [HaR] <;> iassumption
  isplitl [Hxs]; · iexact Hxs
  isplitl [Hin] <;> iassumption

theorem body_runs (c : Dev nD) : Runs X K c (body c) (bodyPre X c) (bodyPost X c) := fun Q => by
  refine BIBase.Entails.trans ?_ (wp_fupd _ _ _ _ _)
  iintro ⟨#HR, HA, HQ⟩
  iapply (body_end X K c _)
  isplitr; · iexact HR
  isplitl [HA]; · iexact HA
  iintro HE
  imod (bodyEnd_close X K c) $$ [HE] with HP
  · isplitr; · iexact HR
    iexact HE
  imodintro
  iapply HQ
  iexact HP

end Cert.Kernel.AllToAll

end
-- ==== Proof.Run.lean ====
/-
  The launch: the cells' ghost state is made and dealt to the sixteen devices, each device's arrays are cut into the blocks
  the body works on and joined again after it, and the launch theorem turns the body's run into a run of the whole program.
-/
module

public import proofs.«01_k».proof.Proof.Body
public import proofs.«01_k».proof.Proof.Gen.Kernel.Frame
public import Idealize.ShloMosaic.Lib.Quiescent

@[expose] public section

noncomputable section

namespace Cert.Kernel.AllToAll

open Cert.Kernel Cert.Kernel.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig Unit (Elt F) ℕ UU ℕ

variable (X : Fin 16 → S512x8192.Idx → F .f32)

/-! ## Whole arrays and their blocks -/

theorem bigSep_two (Φ : Fin 2 → sProp 𝕄) : bigSep Finset.univ Φ = iprop(Φ 0 ∗ Φ 1) :=
  bigSep_univ_eq_bigSepL [0, 1] (by decide) (by decide) Φ
theorem bigSep_three (Φ : Fin 3 → sProp 𝕄) : bigSep Finset.univ Φ = iprop(Φ 0 ∗ Φ 1 ∗ Φ 2) :=
  bigSep_univ_eq_bigSepL [0, 1, 2] (by decide) (by decide) Φ

/-- A buffer held whole is held piece by piece, for disjoint pieces that leave no element out. -/
theorem pieces {ℓ : Loc nD τ sig} {B : Type} [Fintype B] [DecidableEq B] (I : B → Finset (Idx ℓ))
    (hd : ∀ a b, a ≠ b → Disjoint (I a) (I b)) (hc : ∀ i, ∃ b, i ∈ I b) (f : Buf (Elt F) ℓ) :
    (ℓ ↦{fullShare} f : sProp 𝕄) = bigSep Finset.univ fun b => ℓ ↦[I b]{fullShare} f :=
  Ring.pointsTo_blocks I hd (Finset.eq_univ_of_forall fun i =>
    let ⟨b, h⟩ := hc i; Finset.mem_biUnion.mpr ⟨b, Finset.mem_univ b, h⟩) f
theorem pieces_join {ℓ : Loc nD τ sig} {B : Type} [Fintype B] [DecidableEq B] (I : B → Finset (Idx ℓ))
    (hd : ∀ a b, a ≠ b → Disjoint (I a) (I b)) (hc : ∀ i, ∃ b, i ∈ I b) (f : Buf (Elt F) ℓ) :
    (bigSep Finset.univ fun b => iprop(∃ f, ℓ ↦[I b]{fullShare} f)) ⊢ (iprop(∃ f : Buf (Elt F) ℓ, ℓ ↦{fullShare} f) : sProp 𝕄) :=
  Ring.pointsTo_blocks_join_exists I hd (Finset.eq_univ_of_forall fun i =>
    let ⟨b, h⟩ := hc i; Finset.mem_biUnion.mpr ⟨b, Finset.mem_univ b, h⟩) f

section Whole
variable (c : Dev nD)

theorem rows_whole (f : S8192x512.Idx → F .bf16) :
    (((c : Thread nD τ).loc main_v1) ↦{fullShare} f : sProp 𝕄) = bigSep Finset.univ fun j : Dev nD => rows c j f :=
  pieces (ℓ := (c : Thread nD τ).loc main_v1) oRows oRows_disj oRows_all f
theorem slots_whole (f : S16x512x512.Idx → F .bf16) :
    (((c : Thread nD τ).loc cc0_scratch1) ↦{fullShare} f : sProp 𝕄) = bigSep Finset.univ fun j : Dev nD => slotAt c j f :=
  pieces (ℓ := (c : Thread nD τ).loc cc0_scratch1) slot slot_disj slot_all f
theorem cols_whole :
    (((c : Thread nD τ).loc main_arg0) ↦{fullShare} X c : sProp 𝕄) = bigSep Finset.univ fun j : Dev nD => cols X c j :=
  pieces (ℓ := (c : Thread nD τ).loc main_arg0) xCols xCols_disj xCols_all (X c)
theorem halves_whole (f : S2x512x512.Idx → F .f32) :
    (((c : Thread nD τ).loc cc0_scratch0) ↦{fullShare} f : sProp 𝕄) = iprop(halfAt c 0 f ∗ halfAt c 1 f) :=
  (pieces (ℓ := (c : Thread nD τ).loc cc0_scratch0) half half_disj half_all f).trans (bigSep_two fun b => halfAt c b f)
theorem halves_join : iprop((∃ f, halfAt c 0 f) ∗ ∃ f, halfAt c 1 f)
    ⊢ (iprop(∃ f : Buf (Elt F) ((c : Thread nD τ).loc cc0_scratch0), ((c : Thread nD τ).loc cc0_scratch0) ↦{fullShare} f) : sProp 𝕄) := by
  iintro ⟨⟨%f, H0⟩, H1⟩
  iapply (pieces_join (ℓ := (c : Thread nD τ).loc cc0_scratch0) half half_disj half_all f)
  iapply (Entails.of_eq (bigSep_two (F := F) fun b => iprop(∃ f, halfAt c b f)).symm)
  isplitl [H0]
  · iexists f; iexact H0
  iexact H1

/-- A family at one contents is a family each at some contents. -/
theorem each_some {A : Type} (Φ : Dev nD → A → sProp 𝕄) (f : A) :
    (bigSep Finset.univ fun j => Φ j f) ⊢ bigSep Finset.univ fun j => iprop(∃ f, Φ j f) :=
  bigSep_mono fun j _ => show Φ j f ⊢ iprop(∃ f, Φ j f) from by
    iintro H; iexists f; iexact H
/-- The part of a family at the peers. -/
theorem at_peers (Φ : Dev nD → sProp 𝕄) : bigSep Finset.univ Φ ⊢ bigSep Finset.univ fun r : Fin 15 => Φ (peer c r) := by
  rw [around c Φ]
  iintro ⟨-, H⟩
  iexact H

end Whole

/-! ## What a device's body starts from and ends with -/

/-- The tokens, positions and idle semaphores dealt to device `c`. -/
def dealt (c : Dev nD) : sProp 𝕄 :=
  iprop((atPos ER (barCell c) 0 ∅ 0 ∗ (bigSep Finset.univ fun j : Dev nD => atPos ER (sendCell c j) 0 ∅ 0)
      ∗ bigSep Finset.univ fun j : Dev nD => atPos ER (recvCell c j) 0 ∅ 0)
    ∗ ((bigSep Finset.univ fun j : Dev nD => dutyTok ER (barCell j) 0 c) ∗ (bigSep Finset.univ fun j : Dev nD => dutyTok ER (sendCell c j) 0 j)
      ∗ bigSep Finset.univ fun j : Dev nD => dutyTok ER (recvCell j c) 0 c)
    ∗ semVal ((c : Thread nD τ), .dma (bufSem 0)) 0 ∗ semVal ((c : Thread nD τ), .dma (bufSem 1)) 0 ∗ semVal ((c : Thread nD τ), .dma cpSem) 0)

/-- The credit for what the peers owe it at launch. -/
def credits (c : Dev nD) : sProp 𝕄 :=
  iprop(cred (tallyAt (barCell c) () 15) ∗ bigSep Finset.univ fun r : Fin 15 => cred (tallyAt (recvCell c (peer c r)) () N))

/-- Its arrays outside the kernel: the input, and the result at some contents; -/
def arraysPre (c : Dev nD) : sProp 𝕄 :=
  iprop((((c : Thread nD τ).loc main_arg0) ↦{fullShare} X c) ∗ ∃ f : S8192x512.Idx → F .bf16, ((c : Thread nD τ).loc main_v1) ↦{fullShare} f)
/-- after the run, the result at its final contents. -/
def arraysPost (c : Dev nD) : sProp 𝕄 :=
  iprop((((c : Thread nD τ).loc main_arg0) ↦{fullShare} X c) ∗ ((c : Thread nD τ).loc main_v1) ↦{fullShare} resultOf X c)
/-- The kernel's own two buffers. -/
def scratch (c : Dev nD) : sProp 𝕄 :=
  iprop((∃ f : Buf (Elt F) ((c : Thread nD τ).loc cc0_scratch0), ((c : Thread nD τ).loc cc0_scratch0) ↦{fullShare} f)
    ∗ ∃ f : Buf (Elt F) ((c : Thread nD τ).loc cc0_scratch1), ((c : Thread nD τ).loc cc0_scratch1) ↦{fullShare} f)

theorem bodyPre_intro (c : Dev nD) : iprop(owing c (O₀ c) ∗ dealt c ∗ credits c ∗ arraysPre X c ∗ scratch c) ⊢ bodyPre X c := by
  unfold dealt credits arraysPre scratch bodyPre local0 atRest ownPre peerPre
  simp only [bigSep_sep']
  iintro ⟨HO, ⟨⟨HaB, HaS, HaR⟩, ⟨HtB, HtS, HtR⟩, Hz0, Hz1, Hz⟩, ⟨HcB, HcR⟩, ⟨Hx, ⟨%fo, Ho⟩⟩, ⟨%fb, Hb⟩, ⟨%fs, Hs⟩⟩
  ihave Hb := (Entails.of_eq (halves_whole (F := F) c fb)) $$ Hb
  icases Hb with ⟨Hb0, Hb1⟩
  ihave Hx := (Entails.of_eq ((cols_whole X c).trans (around c _))) $$ Hx
  icases Hx with ⟨Hx, Hxs⟩
  ihave Ho := (Entails.of_eq (rows_whole (F := F) c fo)) $$ Ho
  ihave Ho := (each_some (fun j => rows (F := F) c j) fo) $$ Ho
  ihave Ho := (Entails.of_eq (around (F := F) c _)) $$ Ho
  icases Ho with ⟨Ho, Hos⟩
  ihave Hs := (Entails.of_eq (slots_whole (F := F) c fs)) $$ Hs
  ihave Hs := (each_some (fun j => slotAt (F := F) c j) fs) $$ Hs
  ihave Hs := (Entails.of_eq (around (F := F) c _)) $$ Hs
  icases Hs with ⟨Hs, Hss⟩
  ihave HaS := (Entails.of_eq (around (F := F) c _)) $$ HaS
  icases HaS with ⟨HaS, HaSs⟩
  ihave HaR := (Entails.of_eq (around (F := F) c _)) $$ HaR
  icases HaR with ⟨HaR, HaRs⟩
  ihave HtB := (at_peers (F := F) c _) $$ HtB
  ihave HtS := (at_peers (F := F) c _) $$ HtS
  ihave HtR := (at_peers (F := F) c _) $$ HtR
  isplitl [HO]; · iexact HO
  isplitl [HcB HaB]; · isplitl [HcB] <;> iassumption
  isplitl [Hb0 Hb1 Hz0 Hz1 Hz]
  · isplitl [Hb0 Hz0]
    · isplitl [Hb0]; · iexists fb; iexact Hb0
      iexact Hz0
    isplitl [Hb1 Hz1]
    · isplitl [Hb1]; · iexists fb; iexact Hb1
      iexact Hz1
    iexact Hz
  isplitl [Ho Hx Hs HaR HaS]
  · isplitl [Ho]; · iexact Ho
    isplitl [Hx]; · iexact Hx
    isplitl [Hs]; · iexact Hs
    isplitl [HaR]; · iexact HaR
    iexact HaS
  isplitl [HtB Hos]; · isplitl [HtB] <;> iassumption
  isplitl [Hxs]; · iexact Hxs
  isplitl [Hss]; · iexact Hss
  isplitl [HtS]; · iexact HtS
  isplitl [HtR]; · iexact HtR
  isplitl [HcR HaRs]; · isplitl [HcR] <;> iassumption
  iexact HaSs

/-- The kernel's own semaphores: the two fetches' and the copy's, the sends', the receives'. -/
abbrev osem : Fin 3 ⊕ (Fin 16 ⊕ Fin 16) → SemLoc sig
  | .inl i => .dma (⟨i.val, by have := i.isLt; omega⟩ : Fin 35)
  | .inr (.inl j) => .dma (semS j)
  | .inr (.inr j) => .dma (semR j)

theorem ownSems_eq (c : Dev nD) : (Pipeline.ownSems0 (Ix := Unit) (Name := ℕ) (U := UU) (Lvl := ℕ) (Val := Elt F) (τ := τ) osem c : sProp 𝕄)
    = iprop((semVal ((c : Thread nD τ), .dma (bufSem 0)) 0 ∗ semVal ((c : Thread nD τ), .dma (bufSem 1)) 0 ∗ semVal ((c : Thread nD τ), .dma cpSem) 0)
      ∗ (bigSep Finset.univ fun j : Dev nD => semVal (sendCell c j) 0) ∗ bigSep Finset.univ fun j : Dev nD => semVal (recvCell c j) 0) := by
  unfold Pipeline.ownSems0
  rw [bigSep_univ_sum, bigSep_univ_sum, bigSep_three]
  rfl
theorem barSems_eq (c : Dev nD) : (unscopedSems0 c : sProp 𝕄) = semVal (barCell c) 0 := by
  unfold unscopedSems0; rw [bigSep_eq_bigSepL_of_eq [SemLoc.reg barSem] (by decide) (by decide)]; rfl

theorem bodyPost_elim (c : Dev nD) : bodyPost X c
    ⊢ iprop(owing c 0 ∗ (unscopedSems0 c ∗ arraysPost X c) ∗ Pipeline.ownSems0 osem c ∗ scratch c) := by
  rw [barSems_eq, ownSems_eq]
  unfold bodyPost local0 atRest ownPost peerPost arraysPost scratch
  simp only [bigSep_sep']
  iintro ⟨HO, HzB, ⟨⟨Hb0, Hz0⟩, ⟨Hb1, Hz1⟩, Hz⟩, ⟨Hx, Ho, Hs, HzR, HzS⟩, Hxs, Hos, Hss, HzRs, HzSs⟩
  isplitl [HO]; · iexact HO
  isplitl [HzB Hx Hxs Ho Hos]
  · isplitl [HzB]; · iexact HzB
    isplitl [Hx Hxs]
    · iapply (Entails.of_eq ((cols_whole X c).trans (around c _)).symm)
      isplitl [Hx] <;> iassumption
    iapply (Entails.of_eq ((rows_whole c (resultOf X c)).trans (around c _)).symm)
    isplitl [Ho] <;> iassumption
  isplitl [Hz0 Hz1 Hz HzR HzRs HzS HzSs]
  · isplitl [Hz0 Hz1 Hz]
    · isplitl [Hz0]; · iexact Hz0
      isplitl [Hz1] <;> iassumption
    isplitl [HzS HzSs]
    · iapply (Entails.of_eq (around (F := F) c fun j => semVal (sendCell c j) 0).symm)
      isplitl [HzS] <;> iassumption
    iapply (Entails.of_eq (around (F := F) c fun j => semVal (recvCell c j) 0).symm)
    isplitl [HzR] <;> iassumption
  isplitl [Hb0 Hb1]
  · iapply (halves_join c)
    isplitl [Hb0] <;> iassumption
  iexists (stagedOf (X c))
  iapply (Entails.of_eq ((slots_whole c (stagedOf (X c))).trans (around c _)).symm)
  isplitl [Hs] <;> iassumption

/-! ## The kernel's data and its body -/

/-- What the launch hands device `c`, with its arrays. -/
def start (c : Dev nD) : sProp 𝕄 := iprop((∃ K, records X K) ∗ dealt c ∗ credits c ∗ arraysPre X c)

def dats (_ : Fin 1) (c : Dev nD) : Dat τ (Elt F) Unit ℕ UU ℕ cfg0 c where
  A w := w.elim0
  after w _ := w.elim0
  Φ t := match t with
    | ⟨0, _⟩ => iprop(start X c ∗ scratch c)
    | ⟨_ + 1, _⟩ => iprop((unscopedSems0 c ∗ arraysPost X c) ∗ Pipeline.ownSems0 osem c ∗ scratch c)
  q _ := fullShare
  owed t := match t with
    | ⟨0, _⟩ => O₀ c
    | ⟨_ + 1, _⟩ => 0

theorem owesAt_first (c : Dev nD) : (dats X 0 c).owesAt () t0_0.castSucc ⊢ owing (F := F) c (O₀ c) := by
  unfold Dat.owesAt Pipeline.owesWithin owing
  iintro ⟨%W, -, H⟩
  iexists W
  iexact H
theorem owesAt_last (c : Dev nD) : owing (F := F) c 0 ⊢ (dats X 0 c).owesAt () t0_0.succ := by
  unfold Dat.owesAt Pipeline.owesWithin owing
  iintro ⟨%W, H⟩
  iexists W
  isplitr; · ipureintro; exact fun _ _ => Or.inl trivial
  iexact H

/-- The kernel has no staged array. -/
theorem no_windows (Φ : Fin cfg0.W → sProp 𝕄) : bigSep Finset.univ Φ = iprop(emp) := by
  rw [show (Finset.univ : Finset (Fin cfg0.W)) = ∅ from rfl]; exact BI.bigSep_empty

set_option maxRecDepth 8000 in
theorem body_obligation (c : Dev nD) : BodyObligation (dats X 0 c) (defs₀ (F := F)) 𝒱₀ () Set.univ := fun t => by
  rw [fin_N0 t]
  rw [no_windows, no_windows]
  show iprop(iprop(start X c ∗ scratch c) ∗ (dats X 0 c).owesAt () t0_0.castSucc ∗ emp)
    ⊢ wp frame (wpE (defs₀ (F := F)) 𝒱₀ (c : Thread nD τ) none) Set.univ (bodyAt0 t0_0)
      fun _ => iprop(iprop((unscopedSems0 c ∗ arraysPost X c) ∗ Pipeline.ownSems0 osem c ∗ scratch c) ∗ (dats X 0 c).owesAt () t0_0.succ ∗ emp)
  rw [body_eq]
  simp only [Prog.lift, Prog.bind_op, Prog.bind_ret, wp_deviceId]
  unfold start
  iintro ⟨⟨⟨⟨%K, #HR⟩, Hd, Hc, Ha⟩, Hs⟩, HO, -⟩
  ihave HO := (owesAt_first X c) $$ HO
  iapply (body_runs X K c _)
  isplitr; · iexact HR
  isplitl [HO Hd Hc Ha Hs]
  · iapply (bodyPre_intro X c)
    isplitl [HO]; · iexact HO
    isplitl [Hd]; · iexact Hd
    isplitl [Hc]; · iexact Hc
    isplitl [Ha] <;> iassumption
  iintro HP
  ihave HP := (bodyPost_elim X c) $$ HP
  icases HP with ⟨HO, HP⟩
  isplitl [HP]; · iexact HP
  isplitl [HO]
  · iapply (owesAt_last X c); iexact HO
  iempintro

end Cert.Kernel.AllToAll

end
-- ==== Proof.Launch.lean ====
/-
  The run: every cell's ghost state is made at launch, the duties' tokens go to the devices that pay them, each device's
  credit is what its peers owe it, and the launch theorem gives the whole program's run and its final contents.
-/
module

public import proofs.«01_k».proof.Proof.Run
public import Idealize.ShloMosaic.Lib.Pipeline.CollectiveSegs

@[expose] public section

noncomputable section

namespace Cert.Kernel.AllToAll

open Cert.Kernel Cert.Kernel.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig Unit (Elt F) ℕ UU ℕ

variable (X : Fin 16 → S512x8192.Idx → F .f32)

/-! ## The cells and their duties' tokens -/

theorem csem_injective : Function.Injective csem := by
  rintro (⟨⟩ | a | a) (⟨⟩ | b | b) h
  · rfl
  · exact absurd h.symm (dma_ne_bar _)
  · exact absurd h.symm (dma_ne_bar _)
  · exact absurd h (dma_ne_bar _)
  · rw [semS_inj (dma_inj h)]
  · exact absurd (dma_inj h) (semS_ne_semR _ _)
  · exact absurd h (dma_ne_bar _)
  · exact absurd (dma_inj h).symm (semS_ne_semR _ _)
  · rw [semR_inj (dma_inj h)]
theorem kcell_injective : Function.Injective kcell := fun ⟨c, k⟩ ⟨c', k'⟩ h => by
  have h1 : c = c' := congrArg (fun g : GSem nD τ sig => g.1.1) h
  have h2 : k = k' := csem_injective (congrArg Prod.snd h)
  rw [h1, h2]
def allCells : Finset (GSem nD τ sig) := Finset.univ.map ⟨kcell, kcell_injective⟩

/-- The duties: on device `c`'s barrier, on its send cells, on its receive cells, each named by a peer. -/
abbrev dutyOf (x : Dev nD × (Fin 16 ⊕ (Fin 16 ⊕ Fin 16))) : GSem nD τ sig × ℕ × Dev nD := match x.2 with
  | .inl j => (barCell x.1, 0, j)
  | .inr (.inl j) => (sendCell x.1 j, 0, j)
  | .inr (.inr j) => (recvCell x.1 j, 0, j)
theorem dutyOf_injective : Function.Injective dutyOf := by
  rintro ⟨c, k⟩ ⟨c', k'⟩ h
  have hs := congrArg (fun x : GSem nD τ sig × ℕ × Dev nD => x.1.2) h
  have hc : c = c' := by
    have := congrArg (fun x : GSem nD τ sig × ℕ × Dev nD => x.1.1.1) h
    rcases k with _ | _ | _ <;> rcases k' with _ | _ | _ <;> exact this
  have hj := congrArg (fun x : GSem nD τ sig × ℕ × Dev nD => x.2.2) h
  subst hc
  rcases k with a | a | a <;> rcases k' with b | b | b
  · exact congrArg (fun j => (c, Sum.inl j)) hj
  · exact absurd hs.symm (dma_ne_bar _)
  · exact absurd hs.symm (dma_ne_bar _)
  · exact absurd hs (dma_ne_bar _)
  · exact congrArg (fun j => (c, Sum.inr (Sum.inl j))) hj
  · exact absurd (dma_inj hs) (semS_ne_semR _ _)
  · exact absurd hs (dma_ne_bar _)
  · exact absurd (dma_inj hs).symm (semS_ne_semR _ _)
  · exact congrArg (fun j => (c, Sum.inr (Sum.inr j))) hj
def allDuties : Finset (GSem nD τ sig × ℕ × Dev nD) := Finset.univ.map ⟨dutyOf, dutyOf_injective⟩

/-- The launch element: the pipeline's part, the protocol's, and nothing for the local copies. -/
def u₀ : UU := (initOf (Pipeline.cells cfgs cellOf_inj) (Pipeline.launchToks cfgs cellOf_inj), (initOf allCells allDuties, 1))

/-- The tokens of the duties on device `c`'s own cells, as made. -/
def minted (c : Dev nD) : sProp 𝕄 :=
  iprop((bigSep Finset.univ fun j : Dev nD => dutyTok ER (barCell c) 0 j) ∗ (bigSep Finset.univ fun j : Dev nD => dutyTok ER (sendCell c j) 0 j)
    ∗ bigSep Finset.univ fun j : Dev nD => dutyTok ER (recvCell c j) 0 j)

/-- What the launch element gives device `c`. -/
def G (c : Dev nD) : sProp 𝕄 :=
  iprop((bigSep Finset.univ fun k : Cell => roundState ER (sched X) (kcell (c, k)) 0) ∗ (bigSep Finset.univ fun k : Cell => reached ER (kcell (c, k)) 0)
    ∗ (bigSep Finset.univ fun k : Cell => atPos ER (kcell (c, k)) 0 ∅ 0) ∗ minted c)

theorem fund_cells : BI.own (ER (initOf allCells allDuties)) ⊢ (|==> bigSep Finset.univ (G X) : sProp 𝕄) := by
  have hC (Φ : GSem nD τ sig → sProp 𝕄) : bigSep allCells Φ = bigSep Finset.univ fun c : Dev nD => bigSep Finset.univ fun k : Cell => Φ (kcell (c, k)) := by
    unfold allCells; rw [bigSep_map, bigSep_univ_prod]; rfl
  have hT : bigSep allDuties (fun x => (dutyTok ER x.1 x.2.1 x.2.2 : sProp 𝕄)) = bigSep Finset.univ fun c : Dev nD => minted c := by
    unfold allDuties; rw [bigSep_map, bigSep_univ_prod]
    exact bigSep_congr fun c _ => by unfold minted; rw [bigSep_univ_sum, bigSep_univ_sum]; rfl
  iintro H
  imod (Rounds.fund ER (sched X) allCells allDuties) $$ H with ⟨Hst, Hr, Hat, Htok⟩
  imodintro
  ihave Hst := (Entails.of_eq (hC fun g => roundState ER (sched X) g 0)) $$ Hst
  ihave Hr := (Entails.of_eq (hC fun g => reached ER g 0)) $$ Hr
  ihave Hat := (Entails.of_eq (hC fun g => atPos ER g 0 ∅ 0)) $$ Hat
  ihave Htok := (Entails.of_eq hT) $$ Htok
  unfold G; simp only [bigSep_sep']
  isplitl [Hst]; · iexact Hst
  isplitl [Hr]; · iexact Hr
  isplitl [Hat] <;> iassumption

/-! ## From the launch to what each device starts with -/

theorem each_cell (c : Dev nD) (Φ : GSem nD τ sig → sProp 𝕄) : (bigSep Finset.univ fun k : Cell => Φ (kcell (c, k)))
    = iprop(Φ (barCell c) ∗ (bigSep Finset.univ fun j : Dev nD => Φ (sendCell c j)) ∗ bigSep Finset.univ fun j : Dev nD => Φ (recvCell c j)) := by
  rw [bigSep_univ_sum, bigSep_univ_sum, bigSep_univ_of_subsingleton ()]
  rfl

/-- The semaphores that carry no invariant. -/
def idle (c : Dev nD) : sProp 𝕄 :=
  iprop(semVal ((c : Thread nD τ), .dma (bufSem 0)) 0 ∗ semVal ((c : Thread nD τ), .dma (bufSem 1)) 0 ∗ semVal ((c : Thread nD τ), .dma cpSem) 0)

/-- A cell's invariant, under some name, and that its round has begun. -/
abbrev opened (ck : Dev nD × Cell) (κ : ℕ) : sProp 𝕄 := iprop(cellInv ER (sched X) κ (kcell ck) ∗ reached ER (kcell ck) 0)

theorem open_cell (ck : Dev nD × Cell) : iprop(semVal (kcell ck) 0 ∗ roundState ER (sched X) (kcell ck) 0 ∗ reached ER (kcell ck) 0)
    ⊢ |={Set.univ}=> iprop(∃ κ : ℕ, opened X ck κ) := by
  iintro ⟨Hv, Hs, Hr⟩
  imod ((Rounds.body_intro ER (sched X) (kcell ck)).trans inv_alloc) $$ [Hv Hs] with ⟨%κ, HI⟩
  · isplitl [Hv] <;> iassumption
  imodintro
  iexists κ
  isplitl [HI] <;> iassumption

/-- What device `c` has once its cells are open. -/
def opening (c : Dev nD) : sProp 𝕄 :=
  iprop((bigSep Finset.univ fun k : Cell => iprop(∃ κ : ℕ, opened X (c, k) κ))
    ∗ (bigSep Finset.univ fun k : Cell => atPos ER (kcell (c, k)) 0 ∅ 0) ∗ minted c ∗ idle c)

theorem open_device (c : Dev nD) : iprop(Pipeline.ownSems0 osem c ∗ unscopedSems0 c ∗ G X c) ⊢ |={Set.univ}=> opening X c := by
  rw [ownSems_eq, barSems_eq]
  unfold G opening idle
  iintro ⟨⟨Hidle, HS, HR⟩, HB, Hst, Hr, Hat, Htok⟩
  imod (show iprop((bigSep Finset.univ fun k : Cell => semVal (kcell (c, k)) 0) ∗ (bigSep Finset.univ fun k : Cell => roundState ER (sched X) (kcell (c, k)) 0)
      ∗ bigSep Finset.univ fun k : Cell => reached ER (kcell (c, k)) 0)
      ⊢ (|={Set.univ}=> bigSep Finset.univ fun k : Cell => iprop(∃ κ : ℕ, opened X (c, k) κ) : sProp 𝕄) from by
        rw [← bigSep_sep', ← bigSep_sep']
        exact (bigSep_mono fun k _ => open_cell X (c, k)).trans (bigSep_fupd _ _)) $$ [HS HR HB Hst Hr] with HI
  · isplitl [HS HR HB]
    · iapply (Entails.of_eq (each_cell (F := F) c fun g => semVal g 0).symm)
      isplitl [HB]; · iexact HB
      isplitl [HS] <;> iassumption
    isplitl [Hst] <;> iassumption
  imodintro
  isplitl [HI]; · iexact HI
  isplitl [Hat]; · iexact Hat
  isplitl [Htok] <;> iassumption

/-- The tokens of the duties device `c` pays: the one named `c` on every device's barrier and receive cell, and its own sends'. -/
def owedToks (c : Dev nD) : sProp 𝕄 :=
  iprop((bigSep Finset.univ fun j : Dev nD => dutyTok ER (barCell j) 0 c) ∗ (bigSep Finset.univ fun j : Dev nD => dutyTok ER (sendCell c j) 0 j)
    ∗ bigSep Finset.univ fun j : Dev nD => dutyTok ER (recvCell j c) 0 c)
theorem tokens_dealt : (bigSep Finset.univ fun c : Dev nD => (minted c : sProp 𝕄)) = bigSep Finset.univ fun c : Dev nD => owedToks c := by
  unfold minted owedToks
  simp only [bigSep_sep']
  rw [bigSep_univ_comm (fun c j : Dev nD => (dutyTok ER (barCell c) 0 j : sProp 𝕄)), bigSep_univ_comm (fun c j : Dev nD => (dutyTok ER (recvCell c j) 0 j : sProp 𝕄))]

/-- Every cell's invariant and round. -/
def allOpened (K : Dev nD × Cell → ℕ) : sProp 𝕄 := bigSep Finset.univ fun ck : Dev nD × Cell => opened X ck (K ck)
instance allOpened_persistent (K : Dev nD × Cell → ℕ) : BI.Persistent (allOpened X K) := by unfold allOpened; infer_instance

/-- What the global step gives device `c`. -/
def G' (c : Dev nD) : sProp 𝕄 := iprop((∃ K, allOpened X K) ∗ dealt c)

theorem dealt_eq (c : Dev nD) : iprop((bigSep Finset.univ fun k : Cell => (atPos ER (kcell (c, k)) 0 ∅ 0 : sProp 𝕄)) ∗ owedToks c ∗ idle c) = dealt c := by
  rw [each_cell (F := F) c fun g => atPos ER g 0 ∅ 0]; rfl

theorem share (K : Dev nD × Cell → ℕ) (c : Dev nD) : iprop(allOpened X K ∗ dealt c) ⊢ G' X c := by
  unfold G'
  iintro ⟨HI, HD⟩
  isplitl [HI]
  · iexists K; iexact HI
  iexact HD

theorem deal : (bigSep Finset.univ fun c : Dev nD => opening X c) ⊢ bigSep Finset.univ (G' X) := by
  have hD : iprop((bigSep Finset.univ fun c : Dev nD => bigSep Finset.univ fun k : Cell => (atPos ER (kcell (c, k)) 0 ∅ 0 : sProp 𝕄))
      ∗ (bigSep Finset.univ fun c : Dev nD => owedToks c) ∗ bigSep Finset.univ fun c : Dev nD => idle c)
      = bigSep Finset.univ fun c : Dev nD => (dealt c : sProp 𝕄) := by
    rw [← bigSep_sep', ← bigSep_sep']
    exact bigSep_congr fun c _ => dealt_eq c
  unfold opening
  simp only [bigSep_sep']
  rw [← bigSep_univ_prod (fun ck : Dev nD × Cell => iprop(∃ κ : ℕ, opened X ck κ)), tokens_dealt]
  iintro ⟨HI, HD⟩
  ihave HK := (BI.bigSep_exists_pi Finset.univ (fun (ck : Dev nD × Cell) (κ : ℕ) => opened X ck κ)) $$ HI
  icases HK with ⟨%K, HI⟩
  ihave HD := (Entails.of_eq hD) $$ HD
  iapply (spread (share X K))
  isplitl [HI]
  · unfold allOpened; iexact HI
  iexact HD

/-- The global step: every device's semaphores and ghost state at once. -/
theorem glob : (bigSep Finset.univ fun c => iprop(Pipeline.ownSems0 osem c ∗ unscopedSems0 c ∗ G X c) : sProp 𝕄)
    ⊢ |={Set.univ}=> bigSep Finset.univ (G' X) :=
  ((bigSep_mono fun c _ => open_device X c).trans (bigSep_fupd _ _)).trans (BI.fupd_mono (deal X))

/-! ## The launch credit: what the devices owe is what is owed to them -/

/-- Summed over all pairs of distinct devices, from either end. -/
theorem sum_pairs {M : Type} [AddCommMonoid M] (g : Dev nD → Dev nD → M) :
    (∑ d, ∑ r : Fin 15, g (peer d r) d) = ∑ d, ∑ r : Fin 15, g d (peer d r) := by
  have h (f : Dev nD → M) (d : Dev nD) : (∑ r : Fin 15, f (peer d r)) = ∑ e ∈ Finset.univ.erase d, f e := by
    rw [erase_peers, Finset.sum_map]; rfl
  rw [Finset.sum_congr rfl fun d _ => h (fun e => g e d) d, Finset.sum_congr rfl fun d _ => h (g d) d]
  exact Finset.sum_comm' fun x y => by simp only [Finset.mem_univ, Finset.mem_erase, true_and, and_true, ne_comm]

theorem owedFrom_zero (t : Fin 15 → CellTallies nD τ sig Unit) : owedFrom t 0 = ∑ r, t r := by
  unfold owedFrom; rw [Finset.filter_true_of_mem fun r _ => Nat.zero_le _]

/-- What the peers owe device `c`. -/
def due (c : Dev nD) : CellTallies nD τ sig Unit :=
  (∑ r : Fin 15, tallyAt (recvCell c (peer c r)) () N) + ∑ r : Fin 15, tallyAt (barCell c) () 1

theorem due_bar (c : Dev nD) : (∑ r : Fin 15, (tallyAt (barCell c) () 1 : CellTallies nD τ sig Unit)) = tallyAt (barCell c) () 15 := by
  simp only [Fin.sum_univ_succ, Fin.sum_univ_zero, add_zero, tallyAt_add]

theorem sum_due : (∑ d, O₀ d) = ∑ d, due d := by
  unfold O₀ due
  simp only [owedFrom_zero, Finset.sum_add_distrib]
  unfold sendTally sigTally
  rw [sum_pairs (fun e d => (tallyAt (recvCell e d) () N : CellTallies nD τ sig Unit)), sum_pairs (fun e _ => (tallyAt (barCell e) () 1 : CellTallies nD τ sig Unit))]

theorem due_own (d : Dev nD) (g : GSem nD τ sig) (h : due d g ≠ 0) : g.1 = (d.tc : Thread nD τ) := by
  by_contra hg
  refine h ?_
  have hz (sm : SemLoc sig) (n : ℕ) : (tallyAt ((d : Thread nD τ), sm) () n : CellTallies nD τ sig Unit) g = 0 :=
    tallyAt_ne_cell (fun e => hg (congrArg Prod.fst e)) () n
  unfold due
  rw [Pi.add_apply, Finset.sum_apply, Finset.sum_apply, Finset.sum_eq_zero fun r _ => hz _ _, Finset.sum_eq_zero fun r _ => hz _ _, add_zero]

theorem credits_intro (c : Dev nD) : (Pipeline.launchCred O₀ c : sProp 𝕄) ⊢ credits c := by
  rw [Pipeline.launchCred_of_sum O₀ due sum_due due_own c]
  unfold due credits
  rw [due_bar]
  iintro H
  ihave H := (cred_add _ _).1 $$ H
  icases H with ⟨HR, HB⟩
  isplitl [HB]; · iexact HB
  iapply (Entails.of_eq (Pipeline.cred_finsetSum Finset.univ fun r : Fin 15 => (tallyAt (recvCell c (peer c r)) () N : CellTallies nD τ sig Unit)))
  iexact HR

/-! ## The run -/

section Main

variable (m : (ℓ : Loc nD τ sig) → Buf (Elt F) ℓ) (ρ : Dev nD → PrngReg)

/-- The inputs at launch. -/
abbrev xs (c : Dev nD) : S512x8192.Idx → F .f32 := m ((c : Thread nD τ).loc main_arg0)

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' (xs m) c)
      ⊢ |={Set.univ}=> iprop(start (xs m) c ∗ emp) := by
  rw [Pipeline.unscopedRestP_none, unscopedRest0_eq]
  unfold G' start arraysPre records
  iintro ⟨⟨Hx, Ho⟩, Hlev, Hcr, -, ⟨%K, HI⟩, HD⟩
  ihave Hcr := (credits_intro (F := F) c) $$ Hcr
  imodintro
  isplitl
  · isplitl [HI Hlev]
    · iexists K
      isplitl [HI]
      · unfold allOpened; iexact HI
      iexact Hlev
    isplitl [HD]; · iexact HD
    isplitl [Hcr]; · iexact Hcr
    isplitl [Hx]; · iexact Hx
    iexists (m ((c : Thread nD τ).loc main_v1)); iexact Ho
  · iempintro

theorem first_intro (c : Dev nD) :
    iprop(start X c ∗ Pipeline.prefHeld Pipeline.Prefetch.none c (fun _ => fullShare.right) (fun k => k.elim0) ∗ Pipeline.scopedRest cfg0.spec c)
      ⊢ (dats X 0 c).Φ 0 := by
  rw [show (dats X 0 c).Φ 0 = iprop(start X c ∗ scratch c) from rfl, scopedRest0_eq]
  unfold scratch
  iintro ⟨Hs, -, H⟩
  isplitl [Hs] <;> iassumption

theorem last_exit (c : Dev nD) : (dats X 0 c).Φ (Fin.last cfg0.N)
    ⊢ iprop((unscopedSems0 c ∗ arraysPost X c) ∗ Pipeline.ownSems0 osem c ∗ Pipeline.scopedRest cfg0.spec c) := by
  rw [show (dats X 0 c).Φ (Fin.last cfg0.N) = iprop((unscopedSems0 c ∗ arraysPost X c) ∗ Pipeline.ownSems0 osem c ∗ scratch c) from rfl, scopedRest0_eq]
  exact .rfl

theorem read_end (c : Dev nD) (s' : Phys nD τ sig (Elt F)) :
    iprop((unscopedSems0 c ∗ arraysPost X c) ∗ emp ∗ SI s') ⊢ (|={Set.univ}=> iprop(⌜(∀ sm : SemLoc sig, sm.isScoped .tc = false → s'.mem.sem ((c.tc : Thread nD τ), sm) = 0)
      ∧ s'.mem.mem ((c.tc : Thread nD τ).loc main_arg0) = X c ∧ s'.mem.mem ((c.tc : Thread nD τ).loc main_v1) = resultOf X c⌝ ∗ SI s') : sProp 𝕄) := by
  unfold arraysPost
  iintro ⟨⟨Hu, Hx, Ho⟩, -, HSI⟩
  icombine HSI Hx gives %hx
  icombine HSI Ho gives %ho
  imod (Pipeline.unscopedSems0_read (X := unscopedSems0 c) (c := c) fupd_intro s') $$ [Hu HSI] with ⟨%hu, HSI⟩
  · isplitl [Hu] <;> iassumption
  imodintro
  isplitr
  · ipureintro
    exact ⟨hu, Buf.eq_of_forall_mem_univ hx, Buf.eq_of_forall_mem_univ ho⟩
  iexact HSI

set_option maxRecDepth 8000 in
/-- From any memory with zero counters every weakly fair execution terminates without fault, with the input unchanged, every
    counter at zero and, on every device, the result holding the rounded column blocks of all the devices' inputs. -/
theorem run_main : θ_run defs (onTc (τ := τ) (main (F := F))) ⟨m, fun _ => 0, ρ⟩ (fun r =>
    (∀ c : Dev nD, r.2.mem ((c.tc : Thread nD τ).loc main_arg0) = xs m c ∧ r.2.mem ((c.tc : Thread nD τ).loc main_v1) = resultOf (xs m) c)
      ∧ r.2.sem = fun _ => 0) :=
  Pipeline.θ_run_region_owing_glob_pf (fun p => (cfgs p).toPCfg) (fun p => (cfgs p).toPCfg_adm) (dats (xs m)) () cellOf_inj (0 : Fin 1)
    winFacts0.to₀ (by decide : Pipeline.OwnSemFacts cfg0.spec osem) (Pipeline.PreFacts.none _) EP defs₀ 𝒱₀ m ρ main
    (hmain := fun _ => rfl)
    (hbody := body_obligation (xs m)) (hne := fun w => w.elim0) (harr := arr_whole0) (hstage := stage_whole0) (hshare := fun _ w => w.elim0)
    (hdistinct := winFacts0.arr_inj)
    (O₀ := O₀) (howed₀ := fun _ => rfl) (howedN := fun _ => rfl)
    (L := L) (lv := lv) (hL := L_of_ne) (hwaits := fun c => Pipeline.cellsWaits_intro cfgs (dats (xs m)) () 0 c fun w => w.elim0)
    (G := G (xs m)) (G' := G' (xs m)) (u₀ := u₀)
    (hu₀ := by
      unfold u₀
      iintro Hu
      ihave H := (ownU_pair _ _) $$ Hu
      icases H with ⟨HP, HX⟩
      ihave H := (own_pair_emb embR _ _) $$ HX
      icases H with ⟨HX, -⟩
      ihave HX := (show BI.own ((Emb.inl.trans embR).toFun (initOf allCells allDuties)) ⊢ BI.own (ER.toFun (initOf allCells allDuties)) from .rfl) $$ HX
      imod (fund_cells (xs m)) $$ HX with HG
      imodintro
      isplitl [HP] <;> iassumption)
    (hglob := glob (xs m))
    (hA := fun _ w => w.elim0) (hpf := fun _ k => k.elim0)
    (X := start (xs m)) (Y := fun c => iprop(unscopedSems0 c ∗ arraysPost (xs m) c)) (Z := fun _ => iprop(emp))
    (hX := start_intro m ρ) (hin := first_intro (xs m)) (hout := last_exit (xs m))
    (QY := fun c s => (∀ sm : SemLoc sig, sm.isScoped .tc = false → s.sem ((c.tc : Thread nD τ), sm) = 0)
      ∧ s.mem ((c.tc : Thread nD τ).loc main_arg0) = xs m c ∧ s.mem ((c.tc : Thread nD τ).loc main_v1) = resultOf (xs m) c)
    (hY := read_end (xs m))
    (hQ := fun _ h hs => ⟨fun c => (h c).2.2.2, sem_eq_zero hs fun c => (h c).2.2.1⟩)

end Main

end Cert.Kernel.AllToAll

end
-- ==== Proof.Value.lean ====
/-
  The value: when the devices' inputs are the row blocks of one whole array, each device's result is its column block of
  that array rounded entry by entry, which is what the reference computes on one device. The idealized programs have the
  same text, so the one run, stated at any float values, serves both.
-/
module

public import proofs.«01_k».proof.Proof.Launch
public import proofs.«01_k».proof.Proof.Gen.KernelIdeal
public import proofs.«01_k».proof.Proof.Gen.Reference.Run
public import proofs.«01_k».proof.Proof.Gen.ReferenceIdeal.Run
public import Idealize.ShloMosaic.Lib.Layout
public import Idealize.ShloMosaic.Lib.Quiescent

@[expose] public section

noncomputable section

namespace Cert.Kernel.AllToAll

open Cert.Kernel Cert.Kernel.Gen
open Idealize.ShloMosaic Idealize.SL.Sem Idealize.ShloMosaic.TcCoe

variable {F : FTy → Type} [FloatOps F]

/-- Row block `j` of device `c`'s result is column block `c` of device `j`'s rows: over one whole array, column block `c`. -/
theorem resultOf_blocks (x : (⟨2, ![8192, 8192]⟩ : Shape).Idx → F .f32) (c : Fin 16) :
    resultOf (fun d : Fin 16 => Layout.block ⟨2, ![512, 8192]⟩ ⟨2, ![8192, 8192]⟩ 0 16 d x) c
      = Layout.block ⟨2, ![8192, 512]⟩ ⟨2, ![8192, 8192]⟩ 1 16 c fun i => rnd (x i) := by
  funext i
  refine congrArg (fun z => rnd (x z)) (funext fun a => Fin.ext ?_)
  match a with
  | 0 => show (i 0).val / 512 * 512 + (i 0).val % 512 = (i 0).val; omega
  | 1 => show 512 * c.val + (i 1).val = c.val * 512 + (i 1).val; omega

section Blocks

variable (m : (ℓ : Loc nD τ sig) → Buf (Elt F) ℓ) (ρ : Dev nD → PrngReg)

/-- The run from the blocks of a whole array `x`. -/
theorem run_blocks (x : (⟨2, ![8192, 8192]⟩ : Shape).Idx → F .f32)
    (hx : ∀ c : Dev nD, m ((c.tc : Thread nD τ).loc main_arg0) = Layout.block ⟨2, ![512, 8192]⟩ ⟨2, ![8192, 8192]⟩ 0 16 c x) :
    θ_run defs (onTc (τ := τ) (main (F := F))) ⟨m, fun _ => 0, ρ⟩ fun r => ∀ c : Dev nD,
      r.2.mem ((c.tc : Thread nD τ).loc main_v1) = Layout.block ⟨2, ![8192, 512]⟩ ⟨2, ![8192, 8192]⟩ 1 16 c (fun i => rnd (x i))
        ∧ r.2.mem ((c.tc : Thread nD τ).loc main_arg0) = m ((c.tc : Thread nD τ).loc main_arg0) :=
  (θ_run defs _ _).mono (fun _ h c => ⟨(h.1 c).2.trans
    ((congrArg (fun X : Fin 16 → S512x8192.Idx → F .f32 => resultOf X c) (funext hx)).trans (resultOf_blocks x c)), (h.1 c).1⟩) (run_main m ρ)

/-- The input kept and every counter at zero. -/
theorem run_quiet : θ_run defs (onTc (τ := τ) (main (F := F))) ⟨m, fun _ => 0, ρ⟩ fun r =>
    (∀ c : Dev nD, r.2.mem ((c.tc : Thread nD τ).loc main_arg0) = m ((c.tc : Thread nD τ).loc main_arg0)) ∧ r.2.sem = fun _ => 0 :=
  (θ_run defs _ _).mono (fun _ h => ⟨fun c => (h.1 c).1, h.2⟩) (run_main m ρ)

end Blocks

/-! ## The idealized kernel is the same program -/

section Ideal

theorem main_ideal (c : Dev nD) : Cert.KernelIdeal.main (F := F) c = Cert.Kernel.main (F := F) c := rfl

set_option maxRecDepth 100000 in
theorem defs_ideal : Cert.KernelIdeal.defs (F := F) = Cert.Kernel.defs (F := F) := rfl

/-- A run of the kernel is a run of the idealized kernel. -/
theorem run_ideal (s : MemSt nD τ sig (Elt F)) (Q : PUnit × MemSt nD τ sig (Elt F) → Prop)
    (h : θ_run (Cert.Kernel.defs (F := F)) (onTc (τ := τ) (Cert.Kernel.main (F := F))) s Q) :
    θ_run (Cert.KernelIdeal.defs (F := F)) (onTc (τ := Cert.KernelIdeal.τ) (Cert.KernelIdeal.main (F := F))) s Q := by
  rw [show Cert.KernelIdeal.main (F := F) = Cert.Kernel.main (F := F) from funext main_ideal, defs_ideal]
  exact h

end Ideal

end Cert.Kernel.AllToAll

end
-- ==== Proof.lean ====
/-
  The claims: the kernel's and the reference's runs, with the input kept and every counter at zero, and the result's value,
  both at the machine's floats and at the ideal ones.
-/
module

public import proofs.«01_k».proof.Defs
public import proofs.«01_k».proof.Proof.Value
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.Reference
public import proofs.«01_k».proof.Proof.Gen.Reference.Run
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.Reference.Gen.facts, Cert.KernelIdeal.Gen.facts, Cert.ReferenceIdeal.Gen.facts,
  fun m g _ => AllToAll.run_quiet m g,
  fun m g _ => (θ_run _ _ _).mono (fun r h => ⟨fun c => (h c).2, sem_eq_zero_of_no_sems rfl r.2⟩) (Cert.Reference.Value.run m g),
  fun m g _ => AllToAll.run_ideal _ _ (AllToAll.run_quiet m g),
  fun m g _ => (θ_run _ _ _).mono (fun r h => ⟨fun c => (h c).2, sem_eq_zero_of_no_sems rfl r.2⟩) (Cert.ReferenceIdeal.Value.run m g),
  trivial,
  fun m g m' g' _ hm => ⟨_, AllToAll.run_blocks m g _ hm, (θ_run _ _ _).mono (fun _ h => h 0) (Cert.Reference.Value.run m' g')⟩,
  fun m g m' g' _ hm => ⟨_, AllToAll.run_ideal _ _ (AllToAll.run_blocks m g _ hm),
    (θ_run _ _ _).mono (fun _ h => h 0) (Cert.ReferenceIdeal.Value.run m' g')⟩⟩

end Cert.Proof

end
